-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_binary [hPre_targets_binary : Cert.Pre_targets_binary.Facts] (m : (ℓ : Loc Cert.KernelIdeal.nD Cert.KernelIdeal.τ Cert.KernelIdeal.sig) → Buf (Elt Ideal) ℓ) : Prop :=
  ∀ c : Dev Cert.KernelIdeal.nD,
    (Cert.Pre_targets_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_binary [hPre_targets_binary : Cert.Pre_targets_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_TotalIdeal (m : (ℓ : Loc Cert.TotalIdeal.nD Cert.TotalIdeal.τ Cert.TotalIdeal.sig) → Buf (Elt Ideal) ℓ) : Prop :=
  True

def Pre_TotalIdeal_targets_binary [hPre_targets_binary : Cert.Pre_targets_binary.Facts] (m : (ℓ : Loc Cert.TotalIdeal.nD Cert.TotalIdeal.τ Cert.TotalIdeal.sig) → Buf (Elt Ideal) ℓ) : Prop :=
  ∀ c : Dev Cert.TotalIdeal.nD,
    (Cert.Pre_targets_binary.fn (F := Ideal) (m ((c.tc : Thread Cert.TotalIdeal.nD Cert.TotalIdeal.τ).loc Cert.TotalIdeal.main_arg0)) (m ((c.tc : Thread Cert.TotalIdeal.nD Cert.TotalIdeal.τ).loc Cert.TotalIdeal.main_arg1))) = (fun _ => 1#1)

def Pre_ScKernel (m : (ℓ : Loc Cert.ScKernel.nD Cert.ScKernel.τ Cert.ScKernel.sig) → Buf (Elt Bits) ℓ) : Prop :=
  True

def Pre_ScKernelIdeal (m : (ℓ : Loc Cert.ScKernelIdeal.nD Cert.ScKernelIdeal.τ Cert.ScKernelIdeal.sig) → Buf (Elt Ideal) ℓ) : Prop :=
  True

def Pre_ScKernelIdeal_targets_binary [hPre_targets_binary : Cert.Pre_targets_binary.Facts] (m : (ℓ : Loc Cert.ScKernelIdeal.nD Cert.ScKernelIdeal.τ Cert.ScKernelIdeal.sig) → Buf (Elt Ideal) ℓ) : Prop :=
  ∀ c : Dev Cert.ScKernelIdeal.nD,
    (Cert.Pre_targets_binary.fn (F := Ideal) (m ((c.tc : Thread Cert.ScKernelIdeal.nD Cert.ScKernelIdeal.τ).loc Cert.ScKernelIdeal.main_arg0)) (m ((c.tc : Thread Cert.ScKernelIdeal.nD Cert.ScKernelIdeal.τ).loc Cert.ScKernelIdeal.main_arg1))) = (fun _ => 1#1)

def Pre_ScReferenceIdeal (m : (ℓ : Loc Cert.ScReferenceIdeal.nD Cert.ScReferenceIdeal.τ Cert.ScReferenceIdeal.sig) → Buf (Elt Ideal) ℓ) : Prop :=
  True

def Pre_ScReferenceIdeal_targets_binary [hPre_targets_binary : Cert.Pre_targets_binary.Facts] (m : (ℓ : Loc Cert.ScReferenceIdeal.nD Cert.ScReferenceIdeal.τ Cert.ScReferenceIdeal.sig) → Buf (Elt Ideal) ℓ) : Prop :=
  ∀ c : Dev Cert.ScReferenceIdeal.nD,
    (Cert.Pre_targets_binary.fn (F := Ideal) (m ((c.tc : Thread Cert.ScReferenceIdeal.nD Cert.ScReferenceIdeal.τ).loc Cert.ScReferenceIdeal.main_arg0)) (m ((c.tc : Thread Cert.ScReferenceIdeal.nD Cert.ScReferenceIdeal.τ).loc Cert.ScReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_binary [hKernelIdeal : Cert.KernelIdeal.Facts] [hPre_targets_binary : Cert.Pre_targets_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_binary [hReferenceIdeal : Cert.ReferenceIdeal.Facts] [hPre_targets_binary : Cert.Pre_targets_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1))
      ∧ r.2.sem = fun _ => 0)

def quiescent_TotalIdeal_pre_targets_binary [hTotalIdeal : Cert.TotalIdeal.Facts] [hPre_targets_binary : Cert.Pre_targets_binary.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal_targets_binary m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1))
      ∧ r.2.sem = fun _ => 0)

def quiescent_ScKernel [hScKernel : Cert.ScKernel.Facts] : Prop :=
  ∀ (m : (ℓ : Loc Cert.ScKernel.nD Cert.ScKernel.τ Cert.ScKernel.sig) → Buf (Elt Bits) ℓ) (g : Dev Cert.ScKernel.nD → PrngReg), Pre_ScKernel m →
    θ_run (Cert.ScKernel.defs (F := Bits)) (Cert.ScKernel.threads (F := Bits)) ⟨m, fun _ => 0, g⟩ (fun r => (∀ c : Dev Cert.ScKernel.nD,
      r.2.mem ((c.tc : Thread Cert.ScKernel.nD Cert.ScKernel.τ).loc Cert.ScKernel.main_arg0) = m ((c.tc : Thread Cert.ScKernel.nD Cert.ScKernel.τ).loc Cert.ScKernel.main_arg0)
      ∧ r.2.mem ((c.tc : Thread Cert.ScKernel.nD Cert.ScKernel.τ).loc Cert.ScKernel.main_arg1) = m ((c.tc : Thread Cert.ScKernel.nD Cert.ScKernel.τ).loc Cert.ScKernel.main_arg1))
      ∧ r.2.sem = fun _ => 0)

def quiescent_ScKernelIdeal [hScKernelIdeal : Cert.ScKernelIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg), Pre_ScKernelIdeal m →
    θ_run (Cert.ScKernelIdeal.defs (F := Ideal)) (Cert.ScKernelIdeal.threads (F := Ideal)) ⟨m, fun _ => 0, g⟩ (fun r => (∀ c : Dev Cert.ScKernelIdeal.nD,
      r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0)
      ∧ r.2.mem ((c.tc : Thread Cert.ScKernelIdeal.nD Cert.ScKernelIdeal.τ).loc Cert.ScKernelIdeal.main_arg1) = m ((c.tc : Thread Cert.ScKernelIdeal.nD Cert.ScKernelIdeal.τ).loc Cert.ScKernelIdeal.main_arg1))
      ∧ r.2.sem = fun _ => 0)

def quiescent_ScKernelIdeal_pre_targets_binary [hScKernelIdeal : Cert.ScKernelIdeal.Facts] [hPre_targets_binary : Cert.Pre_targets_binary.Facts] : Prop :=
  ∀ (m : (ℓ : Loc Cert.ScKernelIdeal.nD Cert.ScKernelIdeal.τ Cert.ScKernelIdeal.sig) → Buf (Elt Ideal) ℓ) (g : Dev Cert.ScKernelIdeal.nD → PrngReg), Pre_ScKernelIdeal_targets_binary m →
    θ_run (Cert.ScKernelIdeal.defs (F := Ideal)) (Cert.ScKernelIdeal.threads (F := Ideal)) ⟨m, fun _ => 0, g⟩ (fun r => (∀ c : Dev Cert.ScKernelIdeal.nD,
      r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0)
      ∧ r.2.mem ((c.tc : Thread Cert.ScKernelIdeal.nD Cert.ScKernelIdeal.τ).loc Cert.ScKernelIdeal.main_arg1) = m ((c.tc : Thread Cert.ScKernelIdeal.nD Cert.ScKernelIdeal.τ).loc Cert.ScKernelIdeal.main_arg1))
      ∧ r.2.sem = fun _ => 0)

def quiescent_ScReferenceIdeal [hScReferenceIdeal : Cert.ScReferenceIdeal.Facts] : Prop :=
  ∀ (m : (ℓ : Loc Cert.ScReferenceIdeal.nD Cert.ScReferenceIdeal.τ Cert.ScReferenceIdeal.sig) → Buf (Elt Ideal) ℓ) (g : Dev Cert.ScReferenceIdeal.nD → PrngReg), Pre_ScReferenceIdeal m →
    θ_run (Cert.ScReferenceIdeal.defs (F := Ideal)) (onTc (τ := Cert.ScReferenceIdeal.τ) (Cert.ScReferenceIdeal.main (F := Ideal))) ⟨m, fun _ => 0, g⟩ (fun r => (∀ c : Dev Cert.ScReferenceIdeal.nD,
      r.2.mem ((c.tc : Thread Cert.ScReferenceIdeal.nD Cert.ScReferenceIdeal.τ).loc Cert.ScReferenceIdeal.main_arg0) = m ((c.tc : Thread Cert.ScReferenceIdeal.nD Cert.ScReferenceIdeal.τ).loc Cert.ScReferenceIdeal.main_arg0)
      ∧ r.2.mem ((c.tc : Thread Cert.ScReferenceIdeal.nD Cert.ScReferenceIdeal.τ).loc Cert.ScReferenceIdeal.main_arg1) = m ((c.tc : Thread Cert.ScReferenceIdeal.nD Cert.ScReferenceIdeal.τ).loc Cert.ScReferenceIdeal.main_arg1))
      ∧ r.2.sem = fun _ => 0)

def quiescent_ScReferenceIdeal_pre_targets_binary [hScReferenceIdeal : Cert.ScReferenceIdeal.Facts] [hPre_targets_binary : Cert.Pre_targets_binary.Facts] : Prop :=
  ∀ (m : (ℓ : Loc Cert.ScReferenceIdeal.nD Cert.ScReferenceIdeal.τ Cert.ScReferenceIdeal.sig) → Buf (Elt Ideal) ℓ) (g : Dev Cert.ScReferenceIdeal.nD → PrngReg), Pre_ScReferenceIdeal_targets_binary m →
    θ_run (Cert.ScReferenceIdeal.defs (F := Ideal)) (onTc (τ := Cert.ScReferenceIdeal.τ) (Cert.ScReferenceIdeal.main (F := Ideal))) ⟨m, fun _ => 0, g⟩ (fun r => (∀ c : Dev Cert.ScReferenceIdeal.nD,
      r.2.mem ((c.tc : Thread Cert.ScReferenceIdeal.nD Cert.ScReferenceIdeal.τ).loc Cert.ScReferenceIdeal.main_arg0) = m ((c.tc : Thread Cert.ScReferenceIdeal.nD Cert.ScReferenceIdeal.τ).loc Cert.ScReferenceIdeal.main_arg0)
      ∧ r.2.mem ((c.tc : Thread Cert.ScReferenceIdeal.nD Cert.ScReferenceIdeal.τ).loc Cert.ScReferenceIdeal.main_arg1) = m ((c.tc : Thread Cert.ScReferenceIdeal.nD Cert.ScReferenceIdeal.τ).loc Cert.ScReferenceIdeal.main_arg1))
      ∧ r.2.sem = fun _ => 0)

def preserves_Kernel_KernelIdeal : Prop :=
  True

def algebraic_KernelIdeal_TotalIdeal_pre_targets_binary [hKernelIdeal : Cert.KernelIdeal.Facts] [hTotalIdeal : Cert.TotalIdeal.Facts] [hPre_targets_binary : Cert.Pre_targets_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.TotalIdeal.nD Cert.TotalIdeal.τ Cert.TotalIdeal.sig) → Buf (Elt Ideal) ℓ) (g' : Dev Cert.TotalIdeal.nD → PrngReg), Pre_KernelIdeal_targets_binary m →
    (∀ c : Dev Cert.KernelIdeal.nD,
      m' ((c.tc : Thread Cert.TotalIdeal.nD Cert.TotalIdeal.τ).loc Cert.TotalIdeal.main_arg0) = m ((c.tc : Thread Cert.KernelIdeal.nD Cert.KernelIdeal.τ).loc Cert.KernelIdeal.main_arg0)
      ∧ m' ((c.tc : Thread Cert.TotalIdeal.nD Cert.TotalIdeal.τ).loc Cert.TotalIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.TotalIdeal.defs (F := Ideal)) (onTc (τ := Cert.TotalIdeal.τ) (Cert.TotalIdeal.main (F := Ideal))) ⟨m', fun _ => 0, g'⟩ (fun r => ∀ c : Dev Cert.TotalIdeal.nD,
          r.2.mem ((c.tc : Thread Cert.TotalIdeal.nD Cert.TotalIdeal.τ).loc Cert.TotalIdeal.main_v43) = v0 c
          ∧ r.2.mem ((c.tc : Thread Cert.TotalIdeal.nD Cert.TotalIdeal.τ).loc Cert.TotalIdeal.main_arg0) = m' ((c.tc : Thread Cert.TotalIdeal.nD Cert.TotalIdeal.τ).loc Cert.TotalIdeal.main_arg0)
          ∧ r.2.mem ((c.tc : Thread Cert.TotalIdeal.nD Cert.TotalIdeal.τ).loc Cert.TotalIdeal.main_arg1) = m' ((c.tc : Thread Cert.TotalIdeal.nD Cert.TotalIdeal.τ).loc Cert.TotalIdeal.main_arg1))

def algebraic_KernelIdeal_ReferenceIdeal_on_union_nonempty_pre_targets_binary [hKernelIdeal : Cert.KernelIdeal.Facts] [hReferenceIdeal : Cert.ReferenceIdeal.Facts] [hPre_targets_binary : Cert.Pre_targets_binary.Facts] [hOn_union_nonempty : Cert.On_union_nonempty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![16]⟩ : Shape).Idx, (Cert.On_union_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![16]⟩ : Shape).Idx, (Cert.On_union_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v41) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_ScKernel_ScKernelIdeal : Prop :=
  True

def algebraic_ScKernelIdeal_ScReferenceIdeal_pre_targets_binary [hScKernelIdeal : Cert.ScKernelIdeal.Facts] [hScReferenceIdeal : Cert.ScReferenceIdeal.Facts] [hPre_targets_binary : Cert.Pre_targets_binary.Facts] : Prop :=
  ∀ (m : (ℓ : Loc Cert.ScKernelIdeal.nD Cert.ScKernelIdeal.τ Cert.ScKernelIdeal.sig) → Buf (Elt Ideal) ℓ) (g : Dev Cert.ScKernelIdeal.nD → PrngReg)
    (m' : (ℓ : Loc Cert.ScReferenceIdeal.nD Cert.ScReferenceIdeal.τ Cert.ScReferenceIdeal.sig) → Buf (Elt Ideal) ℓ) (g' : Dev Cert.ScReferenceIdeal.nD → PrngReg), Pre_ScKernelIdeal_targets_binary m →
    (∀ c : Dev Cert.ScKernelIdeal.nD,
      m' ((c.tc : Thread Cert.ScReferenceIdeal.nD Cert.ScReferenceIdeal.τ).loc Cert.ScReferenceIdeal.main_arg0) = m ((c.tc : Thread Cert.ScKernelIdeal.nD Cert.ScKernelIdeal.τ).loc Cert.ScKernelIdeal.main_arg0)
      ∧ m' ((c.tc : Thread Cert.ScReferenceIdeal.nD Cert.ScReferenceIdeal.τ).loc Cert.ScReferenceIdeal.main_arg1) = m ((c.tc : Thread Cert.ScKernelIdeal.nD Cert.ScKernelIdeal.τ).loc Cert.ScKernelIdeal.main_arg1)) →
    ∃ (v0 : (c : Dev Cert.ScKernelIdeal.nD) → Buf (Elt Ideal) ((c.tc : Thread Cert.ScKernelIdeal.nD Cert.ScKernelIdeal.τ).loc Cert.ScKernelIdeal.main_v0)),
      θ_run (Cert.ScKernelIdeal.defs (F := Ideal)) (Cert.ScKernelIdeal.threads (F := Ideal)) ⟨m, fun _ => 0, g⟩ (fun r => ∀ c : Dev Cert.ScKernelIdeal.nD,
          r.2.mem ((c.tc : Thread Cert.ScKernelIdeal.nD Cert.ScKernelIdeal.τ).loc Cert.ScKernelIdeal.main_v0) = v0 c
          ∧ r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0)
          ∧ r.2.mem ((c.tc : Thread Cert.ScKernelIdeal.nD Cert.ScKernelIdeal.τ).loc Cert.ScKernelIdeal.main_arg1) = m ((c.tc : Thread Cert.ScKernelIdeal.nD Cert.ScKernelIdeal.τ).loc Cert.ScKernelIdeal.main_arg1))
      ∧ θ_run (Cert.ScReferenceIdeal.defs (F := Ideal)) (onTc (τ := Cert.ScReferenceIdeal.τ) (Cert.ScReferenceIdeal.main (F := Ideal))) ⟨m', fun _ => 0, g'⟩ (fun r => ∀ c : Dev Cert.ScReferenceIdeal.nD,
          r.2.mem ((c.tc : Thread Cert.ScReferenceIdeal.nD Cert.ScReferenceIdeal.τ).loc Cert.ScReferenceIdeal.main_v47) = v0 c
          ∧ r.2.mem ((c.tc : Thread Cert.ScReferenceIdeal.nD Cert.ScReferenceIdeal.τ).loc Cert.ScReferenceIdeal.main_arg0) = m' ((c.tc : Thread Cert.ScReferenceIdeal.nD Cert.ScReferenceIdeal.τ).loc Cert.ScReferenceIdeal.main_arg0)
          ∧ r.2.mem ((c.tc : Thread Cert.ScReferenceIdeal.nD Cert.ScReferenceIdeal.τ).loc Cert.ScReferenceIdeal.main_arg1) = m' ((c.tc : Thread Cert.ScReferenceIdeal.nD Cert.ScReferenceIdeal.τ).loc Cert.ScReferenceIdeal.main_arg1))

def Claim : Prop :=
  ∃ (hKernel : Cert.Kernel.Facts) (hKernelIdeal : Cert.KernelIdeal.Facts) (hReferenceIdeal : Cert.ReferenceIdeal.Facts) (hTotalIdeal : Cert.TotalIdeal.Facts) (hScKernel : Cert.ScKernel.Facts) (hScKernelIdeal : Cert.ScKernelIdeal.Facts) (hScReferenceIdeal : Cert.ScReferenceIdeal.Facts) (hPre_targets_binary : Cert.Pre_targets_binary.Facts) (hOn_union_nonempty : Cert.On_union_nonempty.Facts),
    quiescent_Kernel (hKernel := hKernel)
    ∧ quiescent_KernelIdeal (hKernelIdeal := hKernelIdeal)
    ∧ quiescent_KernelIdeal_pre_targets_binary (hKernelIdeal := hKernelIdeal) (hPre_targets_binary := hPre_targets_binary)
    ∧ quiescent_ReferenceIdeal (hReferenceIdeal := hReferenceIdeal)
    ∧ quiescent_ReferenceIdeal_pre_targets_binary (hReferenceIdeal := hReferenceIdeal) (hPre_targets_binary := hPre_targets_binary)
    ∧ quiescent_TotalIdeal (hTotalIdeal := hTotalIdeal)
    ∧ quiescent_TotalIdeal_pre_targets_binary (hTotalIdeal := hTotalIdeal) (hPre_targets_binary := hPre_targets_binary)
    ∧ quiescent_ScKernel (hScKernel := hScKernel)
    ∧ quiescent_ScKernelIdeal (hScKernelIdeal := hScKernelIdeal)
    ∧ quiescent_ScKernelIdeal_pre_targets_binary (hScKernelIdeal := hScKernelIdeal) (hPre_targets_binary := hPre_targets_binary)
    ∧ quiescent_ScReferenceIdeal (hScReferenceIdeal := hScReferenceIdeal)
    ∧ quiescent_ScReferenceIdeal_pre_targets_binary (hScReferenceIdeal := hScReferenceIdeal) (hPre_targets_binary := hPre_targets_binary)
    ∧ preserves_Kernel_KernelIdeal
    ∧ algebraic_KernelIdeal_TotalIdeal_pre_targets_binary (hKernelIdeal := hKernelIdeal) (hTotalIdeal := hTotalIdeal) (hPre_targets_binary := hPre_targets_binary)
    ∧ algebraic_KernelIdeal_ReferenceIdeal_on_union_nonempty_pre_targets_binary (hKernelIdeal := hKernelIdeal) (hReferenceIdeal := hReferenceIdeal) (hPre_targets_binary := hPre_targets_binary) (hOn_union_nonempty := hOn_union_nonempty)
    ∧ preserves_ScKernel_ScKernelIdeal
    ∧ algebraic_ScKernelIdeal_ScReferenceIdeal_pre_targets_binary (hScKernelIdeal := hScKernelIdeal) (hScReferenceIdeal := hScReferenceIdeal) (hPre_targets_binary := hPre_targets_binary)
-- ==== On_union_nonempty.lean ====
abbrev S16x2x512x512 : Shape := ⟨4, ![16, 2, 512, 512]⟩
abbrev S16x512x512 : Shape := ⟨3, ![16, 512, 512]⟩
abbrev S16x1x512x512 : Shape := ⟨4, ![16, 1, 512, 512]⟩
abbrev S_ : Shape := ⟨0, ![]⟩
abbrev S16 : Shape := ⟨1, ![16]⟩

class Facts : Prop where
  slices_S16x2x512x512_S16x1x512x512_0_1_0_0 : S16x2x512x512.Slices ![0, 1, 0, 0] S16x1x512x512
  shapeCasts_S16x1x512x512_S16x512x512 : S16x1x512x512.ShapeCasts S16x512x512
  slices_S16x2x512x512_S16x1x512x512_0_0_0_0 : S16x2x512x512.Slices ![0, 0, 0, 0] S16x1x512x512
  bcast_S_S16x512x512 : S_.BroadcastsInDim S16x512x512 (![] : Fin 0 → Fin S16x512x512.rank)
  reducesTo_S16x512x512_S16_d1_2 : S16x512x512.ReducesTo [1, 2] S16
  h_S_ : 0 < S_.numel

variable [Facts]

def fn {F : FTy → Type} [FloatOps F] (main_arg0 : FVec F S16x2x512x512 .f32) (main_arg1 : IVec S16x512x512 32) : IVec S16 1 :=
  let main_v0 : FVec F S16x1x512x512 .f32 := (extractStridedSlice S16x1x512x512 ![0, 1, 0, 0] · slices_S16x2x512x512_S16x1x512x512_0_1_0_0) main_arg0
  let main_v1 : FVec F S16x512x512 .f32 := shapeCast S16x512x512 main_v0 shapeCasts_S16x1x512x512_S16x512x512
  let main_v2 : FVec F S16x1x512x512 .f32 := (extractStridedSlice S16x1x512x512 ![0, 0, 0, 0] · slices_S16x2x512x512_S16x1x512x512_0_0_0_0) main_arg0
  let main_v3 : FVec F S16x512x512 .f32 := shapeCast S16x512x512 main_v2 shapeCasts_S16x1x512x512_S16x512x512
  let main_v4 : FVec F S16x512x512 .f32 := subf main_v1 main_v3
  let main_cst : FVec F S_ .f32 := constant S_ .f32 0x00000000#32
  let main_v5 : FVec F S16x512x512 .f32 := broadcastInDim S16x512x512 ![] bcast_S_S16x512x512 main_cst
  let main_v6 : IVec S16x512x512 1 := cmpf .ogt main_v4 main_v5
  let main_c : IVec S_ 32 := constantI S_ 32 1#32
  let main_v7 : IVec S16x512x512 32 := broadcastInDim S16x512x512 ![] bcast_S_S16x512x512 main_c
  let main_v8 : IVec S16x512x512 1 := cmpi .eq main_arg1 main_v7
  let main_v9 : IVec S16x512x512 1 := ori main_v6 main_v8
  let main_c_0 : IVec S_ 1 := constantI S_ 1 0#1
  let main_v10 : IVec S16 1 := (fun x v => Host.reduce IntOp.ori x v reducesTo_S16x512x512_S16_d1_2 h_S_) main_v9 main_c_0
  main_v10
-- ==== Pre_targets_binary.lean ====
abbrev S16x2x512x512 : Shape := ⟨4, ![16, 2, 512, 512]⟩
abbrev S16x512x512 : Shape := ⟨3, ![16, 512, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x2x512x512 .f32) (main_arg1 : IVec S16x512x512 32) : IVec S_ 1 :=
  let main_c : IVec S_ 32 := constantI S_ 32 0#32
  let main_v0 : IVec S16x512x512 32 := broadcastInDim S16x512x512 ![] bcast_S_S16x512x512 main_c
  let main_v1 : IVec S16x512x512 1 := cmpi .eq main_arg1 main_v0
  let main_c_0 : IVec S_ 32 := constantI S_ 32 1#32
  let main_v2 : IVec S16x512x512 32 := broadcastInDim S16x512x512 ![] bcast_S_S16x512x512 main_c_0
  let main_v3 : IVec S16x512x512 1 := cmpi .eq main_arg1 main_v2
  let main_v4 : IVec S16x512x512 1 := ori main_v1 main_v3
  let main_c_1 : IVec S_ 1 := constantI S_ 1 1#1
  let main_v5 : IVec S_ 1 := (fun x v => Host.reduce IntOp.andi x v reducesTo_S16x512x512_S_d0_1_2 h_S_) main_v4 main_c_1
  main_v5
-- ==== Kernel.lean ====
abbrev S16x2x512x512 : Shape := ⟨4, ![16, 2, 512, 512]⟩
abbrev S16x512x512 : Shape := ⟨3, ![16, 512, 512]⟩
abbrev S16x8x128 : Shape := ⟨3, ![16, 8, 128]⟩
abbrev S2x2x512x512 : Shape := ⟨4, ![2, 2, 512, 512]⟩
abbrev S2x512x512 : Shape := ⟨3, ![2, 512, 512]⟩
abbrev S2x8x128 : Shape := ⟨3, ![2, 8, 128]⟩
abbrev S1x1x512x512 : Shape := ⟨4, ![1, 1, 512, 512]⟩
abbrev S512x512 : Shape := ⟨2, ![512, 512]⟩
abbrev S1x512x512 : Shape := ⟨3, ![1, 512, 512]⟩
abbrev S8x512 : Shape := ⟨2, ![8, 512]⟩
abbrev S1x8x512 : Shape := ⟨3, ![1, 8, 512]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S16x1x1 : Shape := ⟨3, ![16, 1, 1]⟩
abbrev S16 : Shape := ⟨1, ![16]⟩

abbrev nBuf : Space → Nat
  | .hbm => 5
  | .vmem => 6
  | .smem => 0
  | _ => 0

abbrev bufTy : (tb : Table) → Fin (tcTables nBuf tb) → BufTy
  | .hbm, ⟨0, _⟩ => ⟨S16x2x512x512, .f32⟩
  | .hbm, ⟨1, _⟩ => ⟨S16x512x512, .i32⟩
  | .hbm, ⟨2, _⟩ => ⟨S16x8x128, .f32⟩
  | .hbm, ⟨3, _⟩ => ⟨S16x1x1, .f32⟩
  | .hbm, ⟨4, _⟩ => ⟨S16, .f32⟩
  | .local _ .vmem, ⟨0, _⟩ => ⟨S2x2x512x512, .f32⟩
  | .local _ .vmem, ⟨1, _⟩ => ⟨S2x2x512x512, .f32⟩
  | .local _ .vmem, ⟨2, _⟩ => ⟨S2x512x512, .i32⟩
  | .local _ .vmem, ⟨3, _⟩ => ⟨S2x512x512, .i32⟩
  | .local _ .vmem, ⟨4, _⟩ => ⟨S2x8x128, .f32⟩
  | .local _ .vmem, ⟨5, _⟩ => ⟨S2x8x128, .f32⟩
  | _, _ => ⟨S16x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x2x512x512 : Shape := ⟨4, ![16, 2, 512, 512]⟩
abbrev S16x512x512 : Shape := ⟨3, ![16, 512, 512]⟩
abbrev S16x1x512x512 : Shape := ⟨4, ![16, 1, 512, 512]⟩
abbrev S_ : Shape := ⟨0, ![]⟩
abbrev S16 : Shape := ⟨1, ![16]⟩

abbrev nBuf : Space → Nat
  | .hbm => 86
  | .vmem => 0
  | .smem => 0
  | _ => 0

abbrev bufTy : (tb : Table) → Fin (tcTables nBuf tb) → BufTy
  | .hbm, ⟨0, _⟩ => ⟨S16x2x512x512, .f32⟩
  | .hbm, ⟨1, _⟩ => ⟨S16x512x512, .i32⟩
  | .hbm, ⟨2, _⟩ => ⟨S16x1x512x512, .f32⟩
  | .hbm, ⟨3, _⟩ => ⟨S16x512x512, .f32⟩
  | .hbm, ⟨4, _⟩ => ⟨S16x1x512x512, .f32⟩
  | .hbm, ⟨5, _⟩ => ⟨S16x512x512, .f32⟩
  | .hbm, ⟨6, _⟩ => ⟨S16x512x512, .f32⟩
  | .hbm, ⟨7, _⟩ => ⟨S_, .f32⟩
  | .hbm, ⟨8, _⟩ => ⟨S16x512x512, .f32⟩
  | .hbm, ⟨9, _⟩ => ⟨S16x512x512, .i1⟩
  | .hbm, ⟨10, _⟩ => ⟨S_, .f32⟩
  | .hbm, ⟨11, _⟩ => ⟨S_, .f32⟩
  | .hbm, ⟨12, _⟩ => ⟨S16x512x512, .f32⟩
  | .hbm, ⟨13, _⟩ => ⟨S16x512x512, .f32⟩
  | .hbm, ⟨14, _⟩ => ⟨S16x512x512, .f32⟩
  | .hbm, ⟨15, _⟩ => ⟨S_, .i32⟩
  | .hbm, ⟨16, _⟩ => ⟨S16x512x512, .i32⟩
  | .hbm, ⟨17, _⟩ => ⟨S16x512x512, .i1⟩
  | .hbm, ⟨18, _⟩ => ⟨S16x512x512, .f32⟩
  | .hbm, ⟨19, _⟩ => ⟨S_, .f32⟩
  | .hbm, ⟨20, _⟩ => ⟨S16x512x512, .f32⟩
  | .hbm, ⟨21, _⟩ => ⟨S16x512x512, .i1⟩
  | .hbm, ⟨22, _⟩ => ⟨S_, .i1⟩
  | .hbm, ⟨23, _⟩ => ⟨S16x512x512, .i1⟩
  | .hbm, ⟨24, _⟩ => ⟨S16x512x512, .i1⟩
  | .hbm, ⟨25, _⟩ => ⟨S16x512x512, .i1⟩
  | .hbm, ⟨26, _⟩ => ⟨S16x512x512, .i1⟩
  | .hbm, ⟨27, _⟩ => ⟨S_, .f32⟩
  | .hbm, ⟨28, _⟩ => ⟨S16x512x512, .f32⟩
  | .hbm, ⟨29, _⟩ => ⟨S16x512x512, .i1⟩
  | .hbm, ⟨30, _⟩ => ⟨S16x512x512, .i1⟩
  | .hbm, ⟨31, _⟩ => ⟨S_, .f32⟩
  | .hbm, ⟨32, _⟩ => ⟨S_, .f32⟩
  | .hbm, ⟨33, _⟩ => ⟨S16x512x512, .f32⟩
  | .hbm, ⟨34, _⟩ => ⟨S16x512x512, .f32⟩
  | .hbm, ⟨35, _⟩ => ⟨S16x512x512, .f32⟩
  | .hbm, ⟨36, _⟩ => ⟨S16x512x512, .f32⟩
  | .hbm, ⟨37, _⟩ => ⟨S_, .f32⟩
  | .hbm, ⟨38, _⟩ => ⟨S16, .f32⟩
  | .hbm, ⟨39, _⟩ => ⟨S_, .f32⟩
  | .hbm, ⟨40, _⟩ => ⟨S16x512x512, .f32⟩
  | .hbm, ⟨41, _⟩ => ⟨S16x512x512, .i1⟩
  | .hbm, ⟨42, _⟩ => ⟨S_, .i1⟩
  | .hbm, ⟨43, _⟩ => ⟨S16x512x512, .i1⟩
  | .hbm, ⟨44, _⟩ => ⟨S16x512x512, .i1⟩
  | .hbm, ⟨45, _⟩ => ⟨S16x512x512, .i1⟩
  | .hbm, ⟨46, _⟩ => ⟨S16x512x512, .i1⟩
  | .hbm, ⟨47, _⟩ => ⟨S_, .f32⟩
  | .hbm, ⟨48, _⟩ => ⟨S_, .f32⟩
  | .hbm, ⟨49, _⟩ => ⟨S16x512x512, .f32⟩
  | .hbm, ⟨50, _⟩ => ⟨S16x512x512, .f32⟩
  | .hbm, ⟨51, _⟩ => ⟨S16x512x512, .f32⟩
  | .hbm, ⟨52, _⟩ => ⟨S16x512x512, .f32⟩
  | .hbm, ⟨53, _⟩ => ⟨S_, .f32⟩
  | .hbm, ⟨54, _⟩ => ⟨S16, .f32⟩
  | .hbm, ⟨55, _⟩ => ⟨S_, .f32⟩
  | .hbm, ⟨56, _⟩ => ⟨S16x512x512, .f32⟩
  | .hbm, ⟨57, _⟩ => ⟨S16x512x512, .i1⟩
  | .hbm, ⟨58, _⟩ => ⟨S16x512x512, .i1⟩
  | .hbm, ⟨59, _⟩ => ⟨S_, .f32⟩
  | .hbm, ⟨60, _⟩ => ⟨S_, .f32⟩
  | .hbm, ⟨61, _⟩ => ⟨S16x512x512, .f32⟩
  | .hbm, ⟨62, _⟩ => ⟨S16x512x512, .f32⟩
  | .hbm, ⟨63, _⟩ => ⟨S16x512x512, .f32⟩
  | .hbm, ⟨64, _⟩ => ⟨S16x512x512, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16, .f32⟩
  | .hbm, ⟨69, _⟩ => ⟨S16, .f32⟩
  | .hbm, ⟨70, _⟩ => ⟨S16, .i1⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .i1⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .i1⟩
  | .hbm, ⟨83, _⟩ => ⟨S_, .f32⟩
  | .hbm, ⟨84, _⟩ => ⟨S16, .f32⟩
  | .hbm, ⟨85, _⟩ => ⟨S16, .f32⟩
  | _, _ => ⟨S16x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_c_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_cst_11 : Ref sig .tc := ⟨.hbm, 48, rfl⟩
abbrev main_call2_v0 : Ref sig .tc := ⟨.hbm, 49, rfl⟩
abbrev main_call2_v1 : Ref sig .tc := ⟨.hbm, 50, rfl⟩
abbrev main_v29 : Ref sig .tc := ⟨.hbm, 51, rfl⟩
abbrev main_v30 : Ref sig .tc := ⟨.hbm, 52, rfl⟩
abbrev main_cst_12 : Ref sig .tc := ⟨.hbm, 53, rfl⟩
abbrev main_v31 : Ref sig .tc := ⟨.hbm, 54, rfl⟩
abbrev main_cst_13 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_14 : Ref sig .tc := ⟨.hbm, 59, rfl⟩
abbrev main_cst_15 : Ref sig .tc := ⟨.hbm, 60, rfl⟩
abbrev main_call3_v0 : Ref sig .tc := ⟨.hbm, 61, rfl⟩
abbrev main_call3_v1 : Ref sig .tc := ⟨.hbm, 62, rfl⟩
abbrev main_v35 : Ref sig .tc := ⟨.hbm, 63, rfl⟩
abbrev main_v36 : Ref sig .tc := ⟨.hbm, 64, rfl⟩
abbrev main_cst_16 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call4_v0 : Ref sig .tc := ⟨.hbm, 70, rfl⟩
abbrev main_call4_cst : Ref sig .tc := ⟨.hbm, 71, rfl⟩
abbrev main_call4_call0_v0 : Ref sig .tc := ⟨.hbm, 72, rfl⟩
abbrev main_call4_v1 : Ref sig .tc := ⟨.hbm, 73, rfl⟩
abbrev main_call4_cst_0 : Ref sig .tc := ⟨.hbm, 74, rfl⟩
abbrev main_call4_v2 : Ref sig .tc := ⟨.hbm, 75, rfl⟩
abbrev main_call4_v3 : Ref sig .tc := ⟨.hbm, 76, rfl⟩
abbrev main_call4_cst_1 : Ref sig .tc := ⟨.hbm, 77, rfl⟩
abbrev main_call4_call1_v0 : Ref sig .tc := ⟨.hbm, 78, rfl⟩
abbrev main_call4_v4 : Ref sig .tc := ⟨.hbm, 79, rfl⟩
abbrev main_call4_cst_2 : Ref sig .tc := ⟨.hbm, 80, rfl⟩
abbrev main_call4_v5 : Ref sig .tc := ⟨.hbm, 81, rfl⟩
abbrev main_call4_v6 : Ref sig .tc := ⟨.hbm, 82, rfl⟩
abbrev main_call4_cst_3 : Ref sig .tc := ⟨.hbm, 83, rfl⟩
abbrev main_call4_call2_v0 : Ref sig .tc := ⟨.hbm, 84, rfl⟩
abbrev main_v41 : Ref sig .tc := ⟨.hbm, 85, rfl⟩

abbrev nD : Nat := 1
abbrev τ : Topo := Topo.v7x

variable {F : FTy → Type} [FloatOps F]
-- ==== TotalIdeal.lean ====
abbrev S16x2x512x512 : Shape := ⟨4, ![16, 2, 512, 512]⟩
abbrev S16x512x512 : Shape := ⟨3, ![16, 512, 512]⟩
abbrev S16x1x512x512 : Shape := ⟨4, ![16, 1, 512, 512]⟩
abbrev S_ : Shape := ⟨0, ![]⟩
abbrev S16 : Shape := ⟨1, ![16]⟩

abbrev nBuf : Space → Nat
  | .hbm => 77
  | .vmem => 0
  | .smem => 0
  | _ => 0

abbrev bufTy : (tb : Table) → Fin (tcTables nBuf tb) → BufTy
  | .hbm, ⟨0, _⟩ => ⟨S16x2x512x512, .f32⟩
  | .hbm, ⟨1, _⟩ => ⟨S16x512x512, .i32⟩
  | .hbm, ⟨2, _⟩ => ⟨S16x1x512x512, .f32⟩
  | .hbm, ⟨3, _⟩ => ⟨S16x512x512, .f32⟩
  | .hbm, ⟨4, _⟩ => ⟨S16x1x512x512, .f32⟩
  | .hbm, ⟨5, _⟩ => ⟨S16x512x512, .f32⟩
  | .hbm, ⟨6, _⟩ => ⟨S16x512x512, .f32⟩
  | .hbm, ⟨7, _⟩ => ⟨S_, .f32⟩
  | .hbm, ⟨8, _⟩ => ⟨S16x512x512, .f32⟩
  | .hbm, ⟨9, _⟩ => ⟨S16x512x512, .i1⟩
  | .hbm, ⟨10, _⟩ => ⟨S_, .f32⟩
  | .hbm, ⟨11, _⟩ => ⟨S_, .f32⟩
  | .hbm, ⟨12, _⟩ => ⟨S16x512x512, .f32⟩
  | .hbm, ⟨13, _⟩ => ⟨S16x512x512, .f32⟩
  | .hbm, ⟨14, _⟩ => ⟨S16x512x512, .f32⟩
  | .hbm, ⟨15, _⟩ => ⟨S_, .i32⟩
  | .hbm, ⟨16, _⟩ => ⟨S16x512x512, .i32⟩
  | .hbm, ⟨17, _⟩ => ⟨S16x512x512, .i1⟩
  | .hbm, ⟨18, _⟩ => ⟨S16x512x512, .f32⟩
  | .hbm, ⟨19, _⟩ => ⟨S_, .f32⟩
  | .hbm, ⟨20, _⟩ => ⟨S16x512x512, .f32⟩
  | .hbm, ⟨21, _⟩ => ⟨S16x512x512, .i1⟩
  | .hbm, ⟨22, _⟩ => ⟨S_, .i1⟩
  | .hbm, ⟨23, _⟩ => ⟨S16x512x512, .i1⟩
  | .hbm, ⟨24, _⟩ => ⟨S16x512x512, .i1⟩
  | .hbm, ⟨25, _⟩ => ⟨S16x512x512, .i1⟩
  | .hbm, ⟨26, _⟩ => ⟨S16x512x512, .i1⟩
  | .hbm, ⟨27, _⟩ => ⟨S_, .f32⟩
  | .hbm, ⟨28, _⟩ => ⟨S16x512x512, .f32⟩
  | .hbm, ⟨29, _⟩ => ⟨S16x512x512, .i1⟩
  | .hbm, ⟨30, _⟩ => ⟨S16x512x512, .i1⟩
  | .hbm, ⟨31, _⟩ => ⟨S_, .f32⟩
  | .hbm, ⟨32, _⟩ => ⟨S_, .f32⟩
  | .hbm, ⟨33, _⟩ => ⟨S16x512x512, .f32⟩
  | .hbm, ⟨34, _⟩ => ⟨S16x512x512, .f32⟩
  | .hbm, ⟨35, _⟩ => ⟨S16x512x512, .f32⟩
  | .hbm, ⟨36, _⟩ => ⟨S16x512x512, .f32⟩
  | .hbm, ⟨37, _⟩ => ⟨S_, .f32⟩
  | .hbm, ⟨38, _⟩ => ⟨S16, .f32⟩
  | .hbm, ⟨39, _⟩ => ⟨S_, .f32⟩
  | .hbm, ⟨40, _⟩ => ⟨S16x512x512, .f32⟩
  | .hbm, ⟨41, _⟩ => ⟨S16x512x512, .i1⟩
  | .hbm, ⟨42, _⟩ => ⟨S_, .i1⟩
  | .hbm, ⟨43, _⟩ => ⟨S16x512x512, .i1⟩
  | .hbm, ⟨44, _⟩ => ⟨S16x512x512, .i1⟩
  | .hbm, ⟨45, _⟩ => ⟨S16x512x512, .i1⟩
  | .hbm, ⟨46, _⟩ => ⟨S16x512x512, .i1⟩
  | .hbm, ⟨47, _⟩ => ⟨S_, .f32⟩
  | .hbm, ⟨48, _⟩ => ⟨S_, .f32⟩
  | .hbm, ⟨49, _⟩ => ⟨S16x512x512, .f32⟩
  | .hbm, ⟨50, _⟩ => ⟨S16x512x512, .f32⟩
  | .hbm, ⟨51, _⟩ => ⟨S16x512x512, .f32⟩
  | .hbm, ⟨52, _⟩ => ⟨S16x512x512, .f32⟩
  | .hbm, ⟨53, _⟩ => ⟨S_, .f32⟩
  | .hbm, ⟨54, _⟩ => ⟨S16, .f32⟩
  | .hbm, ⟨55, _⟩ => ⟨S_, .f32⟩
  | .hbm, ⟨56, _⟩ => ⟨S16x512x512, .f32⟩
  | .hbm, ⟨57, _⟩ => ⟨S16x512x512, .i1⟩
  | .hbm, ⟨58, _⟩ => ⟨S16x512x512, .i1⟩
  | .hbm, ⟨59, _⟩ => ⟨S_, .f32⟩
  | .hbm, ⟨60, _⟩ => ⟨S_, .f32⟩
  | .hbm, ⟨61, _⟩ => ⟨S16x512x512, .f32⟩
  | .hbm, ⟨62, _⟩ => ⟨S16x512x512, .f32⟩
  | .hbm, ⟨63, _⟩ => ⟨S16x512x512, .f32⟩
  | .hbm, ⟨64, _⟩ => ⟨S16x512x512, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .i1⟩
  | .hbm, ⟨72, _⟩ => ⟨S16, .f32⟩
  | .hbm, ⟨73, _⟩ => ⟨S_, .f32⟩
  | .hbm, ⟨74, _⟩ => ⟨S_, .f32⟩
  | .hbm, ⟨75, _⟩ => ⟨S16, .f32⟩
  | .hbm, ⟨76, _⟩ => ⟨S16, .f32⟩
  | _, _ => ⟨S16x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_c_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_cst_11 : Ref sig .tc := ⟨.hbm, 48, rfl⟩
abbrev main_call2_v0 : Ref sig .tc := ⟨.hbm, 49, rfl⟩
abbrev main_call2_v1 : Ref sig .tc := ⟨.hbm, 50, rfl⟩
abbrev main_v29 : Ref sig .tc := ⟨.hbm, 51, rfl⟩
abbrev main_v30 : Ref sig .tc := ⟨.hbm, 52, rfl⟩
abbrev main_cst_12 : Ref sig .tc := ⟨.hbm, 53, rfl⟩
abbrev main_v31 : Ref sig .tc := ⟨.hbm, 54, rfl⟩
abbrev main_cst_13 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_14 : Ref sig .tc := ⟨.hbm, 59, rfl⟩
abbrev main_cst_15 : Ref sig .tc := ⟨.hbm, 60, rfl⟩
abbrev main_call3_v0 : Ref sig .tc := ⟨.hbm, 61, rfl⟩
abbrev main_call3_v1 : Ref sig .tc := ⟨.hbm, 62, rfl⟩
abbrev main_v35 : Ref sig .tc := ⟨.hbm, 63, rfl⟩
abbrev main_v36 : Ref sig .tc := ⟨.hbm, 64, rfl⟩
abbrev main_cst_16 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_17 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_18 : Ref sig .tc := ⟨.hbm, 73, rfl⟩
abbrev main_call4_v0 : Ref sig .tc := ⟨.hbm, 74, rfl⟩
abbrev main_call4_v1 : Ref sig .tc := ⟨.hbm, 75, rfl⟩
abbrev main_v43 : Ref sig .tc := ⟨.hbm, 76, rfl⟩

abbrev nD : Nat := 1
abbrev τ : Topo := Topo.v7x

variable {F : FTy → Type} [FloatOps F]
-- ==== ScKernel.lean ====
abbrev S16x2x512x512 : Shape := ⟨4, ![16, 2, 512, 512]⟩
abbrev S16x512x512 : Shape := ⟨3, ![16, 512, 512]⟩
abbrev S16 : Shape := ⟨1, ![16]⟩
abbrev S2x16x512 : Shape := ⟨3, ![2, 16, 512]⟩
abbrev S768 : Shape := ⟨1, ![768]⟩
abbrev S48 : Shape := ⟨1, ![48]⟩
abbrev S_ : Shape := ⟨0, ![]⟩
abbrev S1x16x512 : Shape := ⟨3, ![1, 16, 512]⟩
abbrev S16x512 : Shape := ⟨2, ![16, 512]⟩
abbrev S1x1x16x512 : Shape := ⟨4, ![1, 1, 16, 512]⟩
abbrev S1x16 : Shape := ⟨2, ![1, 16]⟩
abbrev S8 : Shape := ⟨1, ![8]⟩

abbrev nBuf : Table → Nat
  | .hbm => 3
  | .shared => 1
  | .local .scVector .vmem => 6
  | _ => 0

abbrev bufTy : (tb : Table) → Fin (nBuf tb) → BufTy
  | .hbm, ⟨0, _⟩ => ⟨S16x2x512x512, .f32⟩
  | .hbm, ⟨1, _⟩ => ⟨S16x512x512, .i32⟩
  | .hbm, ⟨2, _⟩ => ⟨S16, .f32⟩
  | .shared, ⟨0, _⟩ => ⟨S768, .f32⟩
  | .local .scVector .vmem, ⟨0, _⟩ => ⟨S2x16x512, .f32⟩
  | .local .scVector .vmem, ⟨1, _⟩ => ⟨S2x16x512, .f32⟩
  | .local .scVector .vmem, ⟨2, _⟩ => ⟨S2x16x512, .i32⟩
  | .local .scVector .vmem, ⟨3, _⟩ => ⟨S768, .f32⟩
  | .local .scVector .vmem, ⟨4, _⟩ => ⟨S48, .f32⟩
  | .local .scVector .vmem, ⟨5, _⟩ => ⟨S16, .f32⟩
  | _, _ => ⟨S16x2x512x512, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 5 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch6 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) (c0_i32_12 : BitVec 32) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c0_i32_13 : BitVec 32 := 0#32
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v31 : BitVec 32 := Scalar.addi v29 c0_i32_12
  let c0_i32_17 : BitVec 32 := 0#32
  ![v18.toNat, 0, v31.toNat, 0]
def k0_off2 (i : grid0.Coords) (c0_i32_12 : BitVec 32) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c1_i32_21 : BitVec 32 := 1#32
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v31 : BitVec 32 := Scalar.addi v29 c0_i32_12
  let c0_i32_25 : BitVec 32 := 0#32
  ![v18.toNat, 1, v31.toNat, 0]
def k0_off3 (i : grid0.Coords) (c0_i32_12 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v31 : BitVec 32 := Scalar.addi v29 c0_i32_12
  let c0_i32_32 : BitVec 32 := 0#32
  ![v18.toNat, v31.toNat, 0]
@[reducible] def k0_t1_loop : Scf.Loop 32 :=
  let c0_i32_85 : BitVec 32 := 0#32
  let c128_i32_86 : BitVec 32 := 128#32
  let v105 : BitVec 32 := Scalar.addi c0_i32_85 c128_i32_86
  let c1_i32_87 : BitVec 32 := 1#32
  ⟨c0_i32_85, v105, c1_i32_87⟩
def k0_off4 (k0_t1 : Fin k0_t1_loop.trips) (c0_i32_456 : BitVec 32) : Fin 2 → Nat :=
  let c0_i32_85 : BitVec 32 := 0#32
  let c1_i32_87 : BitVec 32 := 1#32
  let arg14 : BitVec 32 := Scf.iv c0_i32_85 c1_i32_87 k0_t1
  let c3_i32 : BitVec 32 := 3#32
  let v508 : BitVec 32 := Scalar.shrsi arg14 c3_i32
  let v514 : Index := Scalar.indexCast v508
  let c7_i32 : BitVec 32 := 7#32
  let v509 : BitVec 32 := Scalar.andi arg14 c7_i32
  let c64_i32_455 : BitVec 32 := 64#32
  let v510 : BitVec 32 := Scalar.muli v509 c64_i32_455
  let v511 : BitVec 32 := Scalar.addi v510 c0_i32_456
  let v515 : Index := Scalar.indexCast v511
  ![v514.toNat, v515.toNat]
@[reducible] def k0_t2_loop : Scf.Loop 32 :=
  let c0_i32_138 : BitVec 32 := 0#32
  let c128_i32_139 : BitVec 32 := 128#32
  let v156 : BitVec 32 := Scalar.addi c0_i32_138 c128_i32_139
  let c1_i32_140 : BitVec 32 := 1#32
  ⟨c0_i32_138, v156, c1_i32_140⟩
def k0_off5 (k0_t2 : Fin k0_t2_loop.trips) (c0_i32_456 : BitVec 32) : Fin 2 → Nat :=
  let c0_i32_138 : BitVec 32 := 0#32
  let c1_i32_140 : BitVec 32 := 1#32
  let arg14 : BitVec 32 := Scf.iv c0_i32_138 c1_i32_140 k0_t2
  let c3_i32 : BitVec 32 := 3#32
  let v508 : BitVec 32 := Scalar.shrsi arg14 c3_i32
  let v514 : Index := Scalar.indexCast v508
  let c7_i32 : BitVec 32 := 7#32
  let v509 : BitVec 32 := Scalar.andi arg14 c7_i32
  let c64_i32_455 : BitVec 32 := 64#32
  let v510 : BitVec 32 := Scalar.muli v509 c64_i32_455
  let v511 : BitVec 32 := Scalar.addi v510 c0_i32_456
  let v515 : Index := Scalar.indexCast v511
  ![v514.toNat, v515.toNat]
@[reducible] def k0_t3_loop : Scf.Loop 32 :=
  let c0_i32_191 : BitVec 32 := 0#32
  let c128_i32_192 : BitVec 32 := 128#32
  let v207 : BitVec 32 := Scalar.addi c0_i32_191 c128_i32_192
  let c1_i32_193 : BitVec 32 := 1#32
  ⟨c0_i32_191, v207, c1_i32_193⟩
def k0_off6 (k0_t3 : Fin k0_t3_loop.trips) (c0_i32_456 : BitVec 32) : Fin 2 → Nat :=
  let c0_i32_191 : BitVec 32 := 0#32
  let c1_i32_193 : BitVec 32 := 1#32
  let arg14 : BitVec 32 := Scf.iv c0_i32_191 c1_i32_193 k0_t3
  let c3_i32 : BitVec 32 := 3#32
  let v508 : BitVec 32 := Scalar.shrsi arg14 c3_i32
  let v514 : Index := Scalar.indexCast v508
  let c7_i32 : BitVec 32 := 7#32
  let v509 : BitVec 32 := Scalar.andi arg14 c7_i32
  let c64_i32_455 : BitVec 32 := 64#32
  let v510 : BitVec 32 := Scalar.muli v509 c64_i32_455
  let v511 : BitVec 32 := Scalar.addi v510 c0_i32_456
  let v515 : Index := Scalar.indexCast v511
  ![v514.toNat, v515.toNat]
@[reducible] def k0_t4_loop : Scf.Loop 32 :=
  let c0_i32_244 : BitVec 32 := 0#32
  let c128_i32_245 : BitVec 32 := 128#32
  let v258 : BitVec 32 := Scalar.addi c0_i32_244 c128_i32_245
  let c1_i32_246 : BitVec 32 := 1#32
  ⟨c0_i32_244, v258, c1_i32_246⟩
def k0_off7 (k0_t4 : Fin k0_t4_loop.trips) (c0_i32_456 : BitVec 32) : Fin 2 → Nat :=
  let c0_i32_244 : BitVec 32 := 0#32
  let c1_i32_246 : BitVec 32 := 1#32
  let arg14 : BitVec 32 := Scf.iv c0_i32_244 c1_i32_246 k0_t4
  let c3_i32 : BitVec 32 := 3#32
  let v508 : BitVec 32 := Scalar.shrsi arg14 c3_i32
  let v514 : Index := Scalar.indexCast v508
  let c7_i32 : BitVec 32 := 7#32
  let v509 : BitVec 32 := Scalar.andi arg14 c7_i32
  let c64_i32_455 : BitVec 32 := 64#32
  let v510 : BitVec 32 := Scalar.muli v509 c64_i32_455
  let v511 : BitVec 32 := Scalar.addi v510 c0_i32_456
  let v515 : Index := Scalar.indexCast v511
  ![v514.toNat, v515.toNat]
@[reducible] def k0_t5_loop : Scf.Loop 32 :=
  let c0_i32_297 : BitVec 32 := 0#32
  let c128_i32_298 : BitVec 32 := 128#32
  let v309 : BitVec 32 := Scalar.addi c0_i32_297 c128_i32_298
  let c1_i32_299 : BitVec 32 := 1#32
  ⟨c0_i32_297, v309, c1_i32_299⟩
def k0_off8 (k0_t5 : Fin k0_t5_loop.trips) (c0_i32_456 : BitVec 32) : Fin 2 → Nat :=
  let c0_i32_297 : BitVec 32 := 0#32
  let c1_i32_299 : BitVec 32 := 1#32
  let arg14 : BitVec 32 := Scf.iv c0_i32_297 c1_i32_299 k0_t5
  let c3_i32 : BitVec 32 := 3#32
  let v508 : BitVec 32 := Scalar.shrsi arg14 c3_i32
  let v514 : Index := Scalar.indexCast v508
  let c7_i32 : BitVec 32 := 7#32
  let v509 : BitVec 32 := Scalar.andi arg14 c7_i32
  let c64_i32_455 : BitVec 32 := 64#32
  let v510 : BitVec 32 := Scalar.muli v509 c64_i32_455
  let v511 : BitVec 32 := Scalar.addi v510 c0_i32_456
  let v515 : Index := Scalar.indexCast v511
  ![v514.toNat, v515.toNat]
@[reducible] def k0_t6_loop : Scf.Loop 32 :=
  let c0_i32_350 : BitVec 32 := 0#32
  let c128_i32_351 : BitVec 32 := 128#32
  let v360 : BitVec 32 := Scalar.addi c0_i32_350 c128_i32_351
  let c1_i32_352 : BitVec 32 := 1#32
  ⟨c0_i32_350, v360, c1_i32_352⟩
def k0_off9 (k0_t6 : Fin k0_t6_loop.trips) (c0_i32_456 : BitVec 32) : Fin 2 → Nat :=
  let c0_i32_350 : BitVec 32 := 0#32
  let c1_i32_352 : BitVec 32 := 1#32
  let arg14 : BitVec 32 := Scf.iv c0_i32_350 c1_i32_352 k0_t6
  let c3_i32 : BitVec 32 := 3#32
  let v508 : BitVec 32 := Scalar.shrsi arg14 c3_i32
  let v514 : Index := Scalar.indexCast v508
  let c7_i32 : BitVec 32 := 7#32
  let v509 : BitVec 32 := Scalar.andi arg14 c7_i32
  let c64_i32_455 : BitVec 32 := 64#32
  let v510 : BitVec 32 := Scalar.muli v509 c64_i32_455
  let v511 : BitVec 32 := Scalar.addi v510 c0_i32_456
  let v515 : Index := Scalar.indexCast v511
  ![v514.toNat, v515.toNat]
@[reducible] def k0_t7_loop : Scf.Loop 32 :=
  let c0_i32_403 : BitVec 32 := 0#32
  let c128_i32_404 : BitVec 32 := 128#32
  let v411 : BitVec 32 := Scalar.addi c0_i32_403 c128_i32_404
  let c1_i32_405 : BitVec 32 := 1#32
  ⟨c0_i32_403, v411, c1_i32_405⟩
def k0_off10 (k0_t7 : Fin k0_t7_loop.trips) (c0_i32_456 : BitVec 32) : Fin 2 → Nat :=
  let c0_i32_403 : BitVec 32 := 0#32
  let c1_i32_405 : BitVec 32 := 1#32
  let arg14 : BitVec 32 := Scf.iv c0_i32_403 c1_i32_405 k0_t7
  let c3_i32 : BitVec 32 := 3#32
  let v508 : BitVec 32 := Scalar.shrsi arg14 c3_i32
  let v514 : Index := Scalar.indexCast v508
  let c7_i32 : BitVec 32 := 7#32
  let v509 : BitVec 32 := Scalar.andi arg14 c7_i32
  let c64_i32_455 : BitVec 32 := 64#32
  let v510 : BitVec 32 := Scalar.muli v509 c64_i32_455
  let v511 : BitVec 32 := Scalar.addi v510 c0_i32_456
  let v515 : Index := Scalar.indexCast v511
  ![v514.toNat, v515.toNat]
@[reducible] def k0_t8_loop : Scf.Loop 32 :=
  let c0_i32_433 : BitVec 32 := 0#32
  let c128_i32_434 : BitVec 32 := 128#32
  let v437 : BitVec 32 := Scalar.addi c0_i32_433 c128_i32_434
  let c1_i32_435 : BitVec 32 := 1#32
  ⟨c0_i32_433, v437, c1_i32_435⟩
def k0_off11 (k0_t8 : Fin k0_t8_loop.trips) (c0_i32_456 : BitVec 32) : Fin 2 → Nat :=
  let c0_i32_433 : BitVec 32 := 0#32
  let c1_i32_435 : BitVec 32 := 1#32
  let arg14 : BitVec 32 := Scf.iv c0_i32_433 c1_i32_435 k0_t8
  let c3_i32 : BitVec 32 := 3#32
  let v508 : BitVec 32 := Scalar.shrsi arg14 c3_i32
  let v514 : Index := Scalar.indexCast v508
  let c7_i32 : BitVec 32 := 7#32
  let v509 : BitVec 32 := Scalar.andi arg14 c7_i32
  let c64_i32_455 : BitVec 32 := 64#32
  let v510 : BitVec 32 := Scalar.muli v509 c64_i32_455
  let v511 : BitVec 32 := Scalar.addi v510 c0_i32_456
  let v515 : Index := Scalar.indexCast v511
  ![v514.toNat, v515.toNat]
def k0_off12 (i : grid0.Coords) : Fin 1 → Nat :=
  let arg1 : BitVec 32 := BitVec.ofNat 32 (i 1).val
  let c48_i32_451 : BitVec 32 := 48#32
  let v504 : BitVec 32 := Scalar.muli arg1 c48_i32_451
  ![v504.toNat]
def k0_cond1 (i : grid0.Coords) : BitVec 1 :=
  let arg1 : BitVec 32 := BitVec.ofNat 32 (i 1).val
  let c0_i32_453 : BitVec 32 := 0#32
  let v505 : BitVec 1 := Scalar.cmpi .eq arg1 c0_i32_453
  let v506 : BitVec 32 := Scalar.extui v505
  let c0_i32_454 : BitVec 32 := 0#32
  let v507 : BitVec 1 := Scalar.cmpi .ne v506 c0_i32_454
  v507

def k0_off13 (i : grid0.Coords) : Fin 1 → Nat :=
  let arg0 : BitVec 32 := BitVec.ofNat 32 (i 0).val
  let c8_i32 : BitVec 32 := 8#32
  let v665 : BitVec 32 := Scalar.muli arg0 c8_i32
  ![v665.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScReferenceIdeal.lean ====
abbrev S16x2x512x512 : Shape := ⟨4, ![16, 2, 512, 512]⟩
abbrev S16x512x512 : Shape := ⟨3, ![16, 512, 512]⟩
abbrev S16x1x512x512 : Shape := ⟨4, ![16, 1, 512, 512]⟩
abbrev S_ : Shape := ⟨0, ![]⟩
abbrev S16 : Shape := ⟨1, ![16]⟩
abbrev S4 : Shape := ⟨1, ![4]⟩

abbrev nBuf : Space → Nat
  | .hbm => 82
  | .vmem => 0
  | .smem => 0
  | _ => 0

abbrev bufTy : (tb : Table) → Fin (tcTables nBuf tb) → BufTy
  | .hbm, ⟨0, _⟩ => ⟨S16x2x512x512, .f32⟩
  | .hbm, ⟨1, _⟩ => ⟨S16x512x512, .i32⟩
  | .hbm, ⟨2, _⟩ => ⟨S16x1x512x512, .f32⟩
  | .hbm, ⟨3, _⟩ => ⟨S16x512x512, .f32⟩
  | .hbm, ⟨4, _⟩ => ⟨S16x1x512x512, .f32⟩
  | .hbm, ⟨5, _⟩ => ⟨S16x512x512, .f32⟩
  | .hbm, ⟨6, _⟩ => ⟨S16x512x512, .f32⟩
  | .hbm, ⟨7, _⟩ => ⟨S_, .f32⟩
  | .hbm, ⟨8, _⟩ => ⟨S16x512x512, .f32⟩
  | .hbm, ⟨9, _⟩ => ⟨S16x512x512, .i1⟩
  | .hbm, ⟨10, _⟩ => ⟨S_, .f32⟩
  | .hbm, ⟨11, _⟩ => ⟨S_, .f32⟩
  | .hbm, ⟨12, _⟩ => ⟨S16x512x512, .f32⟩
  | .hbm, ⟨13, _⟩ => ⟨S16x512x512, .f32⟩
  | .hbm, ⟨14, _⟩ => ⟨S16x512x512, .f32⟩
  | .hbm, ⟨15, _⟩ => ⟨S_, .i32⟩
  | .hbm, ⟨16, _⟩ => ⟨S16x512x512, .i32⟩
  | .hbm, ⟨17, _⟩ => ⟨S16x512x512, .i1⟩
  | .hbm, ⟨18, _⟩ => ⟨S16x512x512, .f32⟩
  | .hbm, ⟨19, _⟩ => ⟨S_, .f32⟩
  | .hbm, ⟨20, _⟩ => ⟨S16x512x512, .f32⟩
  | .hbm, ⟨21, _⟩ => ⟨S16x512x512, .i1⟩
  | .hbm, ⟨22, _⟩ => ⟨S_, .i1⟩
  | .hbm, ⟨23, _⟩ => ⟨S16x512x512, .i1⟩
  | .hbm, ⟨24, _⟩ => ⟨S16x512x512, .i1⟩
  | .hbm, ⟨25, _⟩ => ⟨S16x512x512, .i1⟩
  | .hbm, ⟨26, _⟩ => ⟨S16x512x512, .i1⟩
  | .hbm, ⟨27, _⟩ => ⟨S_, .f32⟩
  | .hbm, ⟨28, _⟩ => ⟨S16x512x512, .f32⟩
  | .hbm, ⟨29, _⟩ => ⟨S16x512x512, .i1⟩
  | .hbm, ⟨30, _⟩ => ⟨S16x512x512, .i1⟩
  | .hbm, ⟨31, _⟩ => ⟨S_, .f32⟩
  | .hbm, ⟨32, _⟩ => ⟨S_, .f32⟩
  | .hbm, ⟨33, _⟩ => ⟨S16x512x512, .f32⟩
  | .hbm, ⟨34, _⟩ => ⟨S16x512x512, .f32⟩
  | .hbm, ⟨35, _⟩ => ⟨S16x512x512, .f32⟩
  | .hbm, ⟨36, _⟩ => ⟨S16x512x512, .f32⟩
  | .hbm, ⟨37, _⟩ => ⟨S_, .f32⟩
  | .hbm, ⟨38, _⟩ => ⟨S16, .f32⟩
  | .hbm, ⟨39, _⟩ => ⟨S_, .f32⟩
  | .hbm, ⟨40, _⟩ => ⟨S16x512x512, .f32⟩
  | .hbm, ⟨41, _⟩ => ⟨S16x512x512, .i1⟩
  | .hbm, ⟨42, _⟩ => ⟨S_, .i1⟩
  | .hbm, ⟨43, _⟩ => ⟨S16x512x512, .i1⟩
  | .hbm, ⟨44, _⟩ => ⟨S16x512x512, .i1⟩
  | .hbm, ⟨45, _⟩ => ⟨S16x512x512, .i1⟩
  | .hbm, ⟨46, _⟩ => ⟨S16x512x512, .i1⟩
  | .hbm, ⟨47, _⟩ => ⟨S_, .f32⟩
  | .hbm, ⟨48, _⟩ => ⟨S_, .f32⟩
  | .hbm, ⟨49, _⟩ => ⟨S16x512x512, .f32⟩
  | .hbm, ⟨50, _⟩ => ⟨S16x512x512, .f32⟩
  | .hbm, ⟨51, _⟩ => ⟨S16x512x512, .f32⟩
  | .hbm, ⟨52, _⟩ => ⟨S16x512x512, .f32⟩
  | .hbm, ⟨53, _⟩ => ⟨S_, .f32⟩
  | .hbm, ⟨54, _⟩ => ⟨S16, .f32⟩
  | .hbm, ⟨55, _⟩ => ⟨S_, .f32⟩
  | .hbm, ⟨56, _⟩ => ⟨S16x512x512, .f32⟩
  | .hbm, ⟨57, _⟩ => ⟨S16x512x512, .i1⟩
  | .hbm, ⟨58, _⟩ => ⟨S16x512x512, .i1⟩
  | .hbm, ⟨59, _⟩ => ⟨S_, .f32⟩
  | .hbm, ⟨60, _⟩ => ⟨S_, .f32⟩
  | .hbm, ⟨61, _⟩ => ⟨S16x512x512, .f32⟩
  | .hbm, ⟨62, _⟩ => ⟨S16x512x512, .f32⟩
  | .hbm, ⟨63, _⟩ => ⟨S16x512x512, .f32⟩
  | .hbm, ⟨64, _⟩ => ⟨S16x512x512, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .i1⟩
  | .hbm, ⟨72, _⟩ => ⟨S16, .f32⟩
  | .hbm, ⟨73, _⟩ => ⟨S_, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S16, .f32⟩
  | _, _ => ⟨S16x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_c_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_cst_11 : Ref sig .tc := ⟨.hbm, 48, rfl⟩
abbrev main_call2_v0 : Ref sig .tc := ⟨.hbm, 49, rfl⟩
abbrev main_call2_v1 : Ref sig .tc := ⟨.hbm, 50, rfl⟩
abbrev main_v29 : Ref sig .tc := ⟨.hbm, 51, rfl⟩
abbrev main_v30 : Ref sig .tc := ⟨.hbm, 52, rfl⟩
abbrev main_cst_12 : Ref sig .tc := ⟨.hbm, 53, rfl⟩
abbrev main_v31 : Ref sig .tc := ⟨.hbm, 54, rfl⟩
abbrev main_cst_13 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_14 : Ref sig .tc := ⟨.hbm, 59, rfl⟩
abbrev main_cst_15 : Ref sig .tc := ⟨.hbm, 60, rfl⟩
abbrev main_call3_v0 : Ref sig .tc := ⟨.hbm, 61, rfl⟩
abbrev main_call3_v1 : Ref sig .tc := ⟨.hbm, 62, rfl⟩
abbrev main_v35 : Ref sig .tc := ⟨.hbm, 63, rfl⟩
abbrev main_v36 : Ref sig .tc := ⟨.hbm, 64, rfl⟩
abbrev main_cst_16 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_17 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_18 : Ref sig .tc := ⟨.hbm, 73, rfl⟩
abbrev main_call4_v0 : Ref sig .tc := ⟨.hbm, 74, rfl⟩
abbrev main_call4_v1 : Ref sig .tc := ⟨.hbm, 75, rfl⟩
abbrev main_v43 : Ref sig .tc := ⟨.hbm, 76, rfl⟩
abbrev main_cst_19 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩

abbrev nD : Nat := 1
abbrev τ : Topo := Topo.v7x

variable {F : FTy → Type} [FloatOps F]
-- ==== Proof.Count.lean ====
/- COUNTS, and what the program makes of them: an image's three counts of pixels, as naturals, over its two score planes
   and its label plane; the quotient "intersection over union" of three counts in the extended reals; and the sums of 0/1
   words that count. Nothing here names a program. -/
module

public import Idealize.ShloMosaic.Lib.WordSum
public import Idealize.ShloMosaic.Lib.ValueIdxCore
public import Idealize.ShloMosaic.Lib.Pipeline.Value
public import Idealize.ShloMosaic.PureOps.Ideal.Laws
public import Idealize.ShloMosaic.Lib.IdealHost
public import Idealize.ShloMosaic.Lib.Pointwise.Tactic

@[expose] public section

noncomputable section

namespace Cert.Iou

open Idealize.ShloMosaic hiding ix2 ix3 ix4
open Idealize.ShloMosaic.ValueIdx

/-! ## The counts -/

/-- The scores: image, channel, row, column. -/
abbrev Scores : Shape := ⟨4, ![16, 2, 512, 512]⟩
/-- The labels: image, row, column. -/
abbrev Labels : Shape := ⟨3, ![16, 512, 512]⟩

/-- One pixel's prediction, as a word: 1 when the second score exceeds the first. -/
def posW (x y : EReal) : BitVec 32 := if 0 < y - x then 1#32 else 0#32

/-- It is at most one. -/
theorem posW_le (x y : EReal) : (posW x y).toNat ≤ 1 := by unfold posW; split <;> decide

/-- A prediction masked by a label that is 0 or 1 is their product. -/
theorem and_toNat (a b : BitVec 32) (ha : a.toNat ≤ 1) (hb : b.toNat ≤ 1) : (a &&& b).toNat = a.toNat * b.toNat := by
  rw [BitVec.toNat_and]
  generalize a.toNat = p at *
  generalize b.toNat = q at *
  interval_cases p <;> interval_cases q <;> rfl

/-- Pixels of image `b` predicted. -/
def nP (P : Scores.Idx → EReal) (b : Fin 16) : ℕ := ∑ r : Fin 512, ∑ c : Fin 512, (posW (P (ix4 b 0 r c)) (P (ix4 b 1 r c))).toNat
/-- Pixels of image `b` labelled. -/
def nL (T : Labels.Idx → BitVec 32) (b : Fin 16) : ℕ := ∑ r : Fin 512, ∑ c : Fin 512, (T (ix3 b r c)).toNat
/-- Pixels of image `b` predicted and labelled. -/
def nI (P : Scores.Idx → EReal) (T : Labels.Idx → BitVec 32) (b : Fin 16) : ℕ :=
  ∑ r : Fin 512, ∑ c : Fin 512, (posW (P (ix4 b 0 r c)) (P (ix4 b 1 r c)) &&& T (ix3 b r c)).toNat

/-- Every label is 0 or 1. -/
def Binary (T : Labels.Idx → BitVec 32) : Prop := ∀ i, (T i).toNat ≤ 1

/-- A double sum of terms at most one is at most the number of terms. -/
theorem sum_sum_le {n k : ℕ} (f : Fin n → Fin k → ℕ) (h : ∀ r c, f r c ≤ 1) : ∑ r, ∑ c, f r c ≤ n * k := by
  calc ∑ r, ∑ c, f r c ≤ ∑ _r : Fin n, ∑ _c : Fin k, 1 := Finset.sum_le_sum fun r _ => Finset.sum_le_sum fun c _ => h r c
    _ = n * k := by simp

theorem nP_le (P : Scores.Idx → EReal) (b : Fin 16) : nP P b ≤ 262144 := (sum_sum_le _ fun _ _ => posW_le _ _).trans (by norm_num)
theorem nL_le {T : Labels.Idx → BitVec 32} (hT : Binary T) (b : Fin 16) : nL T b ≤ 262144 := (sum_sum_le _ fun _ _ => hT _).trans (by norm_num)
theorem nI_le_nP (P : Scores.Idx → EReal) (T : Labels.Idx → BitVec 32) (b : Fin 16) : nI P T b ≤ nP P b :=
  Finset.sum_le_sum fun _ _ => Finset.sum_le_sum fun _ _ => by rw [BitVec.toNat_and]; exact Nat.and_le_left
theorem nI_le_nL (P : Scores.Idx → EReal) (T : Labels.Idx → BitVec 32) (b : Fin 16) : nI P T b ≤ nL T b :=
  Finset.sum_le_sum fun _ _ => Finset.sum_le_sum fun _ _ => by rw [BitVec.toNat_and]; exact Nat.and_le_right

/-! ## The quotient -/

/-- A natural in the extended reals. -/
abbrev nat (n : ℕ) : EReal := ((n : ℝ) : EReal)

/-- Intersection over union of three counts, zero where the union is empty. -/
def iou (i p l : ℕ) : EReal := if 0 < nat p + nat l - nat i then Ideal.div (nat i) (nat p + nat l - nat i) else 0

/-- The union as one natural. -/
theorem union_eq {i p l : ℕ} (h : i ≤ p) : nat p + nat l - nat i = nat (p + l - i) := by
  unfold nat
  rw [← EReal.coe_add, ← EReal.coe_sub]
  congr 1
  rw [Nat.cast_sub (by omega)]; push_cast; ring

theorem nat_pos {n : ℕ} : 0 < nat n ↔ 0 < n := by
  unfold nat; rw [EReal.coe_pos]; exact_mod_cast Iff.rfl

theorem nat_eq_zero {n : ℕ} : nat n = 0 ↔ n = 0 := by
  unfold nat; rw [EReal.coe_eq_zero]; exact_mod_cast Iff.rfl

/-- The quotient of counts, by cases on the union. -/
theorem iou_eq {i p l : ℕ} (h : i ≤ p) : iou i p l = if p + l - i = 0 then 0 else ((( i : ℝ) / ((p + l - i : ℕ) : ℝ) : ℝ) : EReal) := by
  unfold iou
  rw [union_eq h]
  by_cases h0 : p + l - i = 0
  · rw [if_pos h0, h0, if_neg (by rw [nat_pos]; omega)]
  · rw [if_neg h0, if_pos (nat_pos.2 (Nat.pos_of_ne_zero h0))]
    unfold nat
    rw [Ideal.div_coe (by exact_mod_cast h0), ← EReal.coe_mul, mul_one_div]

/-! ## Words that count -/

/-- A word below `2³¹` read as a signed integer is itself. -/
theorem toInt_of_toNat {w : BitVec 32} (h : w.toNat < 2 ^ 31) : w.toInt = (w.toNat : ℤ) := by
  rw [BitVec.toInt_eq_toNat_of_lt (by omega)]

end Cert.Iou

end
-- ==== Proof.Fold.lean ====
/- THE TENSORCORE'S COUNT of a 512 by 512 plane of words: sixty-four bands of eight rows added up, then the 8 by 512 sum
   reduced to one word. It is the sum of the plane's words. -/
module

public import proofs.«01_k».proof.Proof.Count

@[expose] public section

noncomputable section

namespace Cert.Iou

open Idealize.ShloMosaic hiding ix2 ix3 ix4
open Idealize.ShloMosaic.ValueIdx

/-- A plane, a band of it, and the shapes of the band's reduction. -/
abbrev Plane : Shape := ⟨2, ![512, 512]⟩
abbrev Band : Shape := ⟨2, ![8, 512]⟩
abbrev Band1 : Shape := ⟨3, ![1, 8, 512]⟩
abbrev One : Shape := ⟨1, ![1]⟩
abbrev One3 : Shape := ⟨3, ![1, 1, 1]⟩

/-- The sum of a plane's words. -/
def total (x : IVec Plane 32) : BitVec 32 := ∑ r : Fin 512, ∑ c : Fin 512, x (ix2 r c)

/-- The band of eight rows from row `k`. -/
def band (x : IVec Plane 32) (k : ℕ) : IVec Band 32 := fun y => x (ix2 ⟨(k + (y 0).val) % 512, Nat.mod_lt _ (by norm_num)⟩ (y 1))

/-- A slice of eight rows is a band. -/
theorem slice_eq (x : IVec Plane 32) (k : ℕ) (h : Plane.Slices ![k, 0] Band) : extractStridedSlice Band ![k, 0] x h = band x k := by
  funext y
  have h0 : k + 8 ≤ 512 := h.2 0
  refine extractStridedSlice_apply _ x h y _ fun a => ?_
  have hy : (y 0).val < 8 := (y 0).isLt
  match a with
  | ⟨0, _⟩ => show (k + (y 0).val) % 512 = k + (y 0).val; exact Nat.mod_eq_of_lt (by omega)
  | ⟨1, _⟩ => show (y 1).val = 0 + (y 1).val; omega

/-- The bands' sum. -/
def bands (x : IVec Plane 32) : IVec Band 32 := fun y => ∑ n ∈ Finset.range 64, band x (8 * n) y

/-- A sum over the rows, by bands. -/
theorem sum_rows {M : Type*} [AddCommMonoid M] {N m k : ℕ} (h : N = m * k) (f : Fin N → M) :
    ∑ r, f r = ∑ n : Fin m, ∑ a : Fin k, f ⟨k * n.val + a.val, by
      subst h
      calc k * n.val + a.val < k * n.val + k := by omega
        _ = (n.val + 1) * k := by ring
        _ ≤ m * k := Nat.mul_le_mul_right _ n.isLt⟩ := by
  subst h
  rw [← (finProdFinEquiv (m := m) (n := k)).sum_comp f, Fintype.sum_prod_type]
  refine Finset.sum_congr rfl fun n _ => Finset.sum_congr rfl fun a _ => congrArg f (Fin.ext ?_)
  simp [finProdFinEquiv, add_comm]

/-- The bands' sum, over the band, is the plane's. -/
theorem sum_bands (x : IVec Plane 32) : ∑ y, bands x y = total x := by
  rw [ValueIdx.sum_idx2, total]
  unfold bands
  refine Eq.trans ?_ (Finset.sum_comm.trans (sum_rows (N := 512) (m := 64) (k := 8) (by norm_num) (fun r => ∑ c : Fin 512, x (ix2 r c))).symm)
  refine Finset.sum_congr rfl fun a _ => ?_
  refine Eq.trans ?_ Finset.sum_comm
  refine Finset.sum_congr rfl fun c _ => ?_
  rw [Finset.sum_range]
  refine Finset.sum_congr rfl fun n _ => ?_
  unfold band
  exact congrArg (fun r => x (ix2 r c)) (Fin.ext (Nat.mod_eq_of_lt (show 8 * n.val + a.val < 512 by omega)))

/-- The band's reduction to one word is the sum over it. -/
theorem reduce_eq (y : IVec Band 32) (h1 : Band.ShapeCasts Band1) (h2 : Band1.Reduces [1, 2] One) (h3 : One.ShapeCasts One3)
    (hn : (0#32 : BitVec 32) = IKind.add.neutral) (h4 : ∀ a, (![0, 0, 0] : Fin 3 → ℕ) a < One3.size a) :
    extractAt (s := One3) ![0, 0, 0] (shapeCast One3 (multiReductionI .add [1, 2] One (shapeCast Band1 y h1) 0#32 h2 hn) h3) h4 = ∑ i, y i := by
  have key : ∀ j : One.Idx, multiReductionI .add [1, 2] One (shapeCast Band1 y h1) 0#32 h2 hn j = ∑ i, y i := by
    intro j
    rw [multiReductionI_eq_reduceFold]
    show reduceFold h2 (· + ·) (0#32 : BitVec 32) (shapeCast Band1 y h1) j = _
    rw [reduceFold_add_eq_sum, show (0#32 : BitVec 32) = 0 from rfl, zero_add, Finset.filter_true_of_mem]
    · unfold shapeCast
      exact Equiv.sum_comp _ y
    · intro i _
      funext a
      apply Fin.ext
      match a with
      | ⟨0, _⟩ =>
        have e : ∀ k : One.Idx, (k 0).val < 1 := fun k => (k 0).isLt
        have e1 := e (h2.drop i)
        have e2 := e j
        show (h2.drop i 0).val = (j 0).val
        omega
  unfold extractAt shapeCast
  exact key _

/-- So the count of a plane, read from its bands' sum. -/
theorem count_eq {x : IVec Plane 32} {y : IVec Band 32} (hy : y = bands x) (h1 : Band.ShapeCasts Band1) (h2 : Band1.Reduces [1, 2] One)
    (h3 : One.ShapeCasts One3) (hn : (0#32 : BitVec 32) = IKind.add.neutral) (h4 : ∀ a, (![0, 0, 0] : Fin 3 → ℕ) a < One3.size a) :
    extractAt (s := One3) ![0, 0, 0] (shapeCast One3 (multiReductionI .add [1, 2] One (shapeCast Band1 y h1) 0#32 h2 hn) h3) h4 = total x := by
  subst hy; rw [reduce_eq, sum_bands]

/-- A plane of words at most one sums, as a signed integer, to the count of its ones. -/
theorem total_toInt (x : IVec Plane 32) (h : ∀ r c, (x (ix2 r c)).toNat ≤ 1) :
    (total x).toInt = ((∑ r : Fin 512, ∑ c : Fin 512, (x (ix2 r c)).toNat : ℕ) : ℤ) := by
  have hb : ∑ r : Fin 512, ∑ c : Fin 512, (x (ix2 r c)).toNat ≤ 512 * 512 := sum_sum_le _ fun r c => h r c
  have hn : (total x).toNat = ∑ r : Fin 512, ∑ c : Fin 512, (x (ix2 r c)).toNat := by
    unfold total
    rw [← Fintype.sum_prod_type', ← Fintype.sum_prod_type'] at *
    exact WordSum.toNat_sum _ _ (lt_of_le_of_lt hb (by norm_num))
  rw [toInt_of_toNat (by rw [hn]; omega), hn]

end Cert.Iou

end
-- ==== Proof.Block.lean ====
/- THE BODY'S BLOCK: what the TensorCore program's body leaves in its output block — two images' quotients, each spread over
   an 8 by 128 tile — from the two images' score and label planes. -/
module

public import proofs.«01_k».proof.Proof.Fold
public import proofs.«01_k».proof.Proof.Gen.KernelIdeal.Frame

@[expose] public section

set_option maxRecDepth 16384

noncomputable section

namespace Cert.KernelIdeal.Val

open Idealize.ShloMosaic hiding ix2 ix3 ix4
open Idealize.ShloMosaic.ValueIdx
open Cert.KernelIdeal Cert.KernelIdeal.Gen Cert.Iou

/-! ## The three counts' chains -/

set_option maxHeartbeats 1600000 in
/-- The first image's intersection. -/
theorem interA (v0 v2 : Vec Ideal S1x1x512x512 .f32) (v4 : Vec Ideal S1x512x512 .i32) :
    k0_pay9 (F := Ideal) (k0_pay4 v0 v2 v4) (k0_pay7 (k0_pay4 v0 v2 v4) (k0_pay5 v0 v2 v4) (k0_pay6 v0 v2 v4)) (k0_pay8 (k0_pay4 v0 v2 v4))
      = (((total (k0_pay4 v0 v2 v4)).toInt : ℝ) : EReal) := by
  unfold k0_pay9
  refine congrArg (fun w : BitVec 32 => ((w.toInt : ℝ) : EReal)) (count_eq (x := k0_pay4 v0 v2 v4) ?_ _ _ _ _ _)
  unfold k0_pay7 k0_pay5 k0_pay6 k0_pay8
  simp only [slice_eq]
  funext y
  simp only [bands, Finset.sum_range_succ, Finset.sum_range_zero, zero_add, Nat.reduceMul, mul_zero]
  rfl

set_option maxHeartbeats 1600000 in
/-- The second image's intersection. -/
theorem interB (v0 v2 : Vec Ideal S1x1x512x512 .f32) (v4 : Vec Ideal S1x512x512 .i32) :
    k0_pay29 (F := Ideal) (k0_pay27 (k0_pay22 v0 v2 v4) (k0_pay25 (k0_pay22 v0 v2 v4) (k0_pay23 v0 v2 v4) (k0_pay24 v0 v2 v4)) (k0_pay26 (k0_pay22 v0 v2 v4))) (k0_pay28 (k0_pay22 v0 v2 v4))
      = (((total (k0_pay22 v0 v2 v4)).toInt : ℝ) : EReal) := by
  unfold k0_pay29
  refine congrArg (fun w : BitVec 32 => ((w.toInt : ℝ) : EReal)) (count_eq (x := k0_pay22 v0 v2 v4) ?_ _ _ _ _ _)
  unfold k0_pay27 k0_pay25 k0_pay23 k0_pay24 k0_pay26 k0_pay28
  simp only [slice_eq]
  funext y
  simp only [bands, Finset.sum_range_succ, Finset.sum_range_zero, zero_add, Nat.reduceMul, mul_zero]
  rfl

set_option maxHeartbeats 1600000 in
/-- The first image's predicted area. -/
theorem predA (x : IVec S512x512 32) :
    k0_pay12 (F := Ideal) x (k0_pay11 x (k0_pay10 x))
      = (((total (x)).toInt : ℝ) : EReal) := by
  unfold k0_pay12
  refine congrArg (fun w : BitVec 32 => ((w.toInt : ℝ) : EReal)) (count_eq (x := x) ?_ _ _ _ _ _)
  unfold k0_pay11 k0_pay10
  simp only [slice_eq]
  funext y
  simp only [bands, Finset.sum_range_succ, Finset.sum_range_zero, zero_add, Nat.reduceMul, mul_zero]
  rfl

set_option maxHeartbeats 1600000 in
/-- The second image's predicted area. -/
theorem predB (x : IVec S512x512 32) :
    k0_pay32 (F := Ideal) x (k0_pay31 x (k0_pay30 x))
      = (((total (x)).toInt : ℝ) : EReal) := by
  unfold k0_pay32
  refine congrArg (fun w : BitVec 32 => ((w.toInt : ℝ) : EReal)) (count_eq (x := x) ?_ _ _ _ _ _)
  unfold k0_pay31 k0_pay30
  simp only [slice_eq]
  funext y
  simp only [bands, Finset.sum_range_succ, Finset.sum_range_zero, zero_add, Nat.reduceMul, mul_zero]
  rfl

/-! ## The quotient -/

/-- The program's quotient of three counts, the third still a word: the union's sign chooses the divisor, then the quotient. -/
theorem quot_eq (i p l : ℕ) (w : BitVec 32) (hw : w.toInt = (l : ℤ)) (I P : Ideal .f32) (hI : I = nat i) (hP : P = nat p) :
    Scalar.addf (F := Ideal) (φ := .f32) (Scalar.ofBits .f32 0x00000000#32)
      (Scalar.select (Scalar.cmpf (F := Ideal) (φ := .f32) .ogt (Scalar.subf (Scalar.addf P (Scalar.sitofp .f32 w)) I) (Scalar.ofBits .f32 0x00000000#32))
        (Scalar.divf I
          (Scalar.select (Scalar.cmpf (F := Ideal) (φ := .f32) .ogt (Scalar.subf (Scalar.addf P (Scalar.sitofp .f32 w)) I) (Scalar.ofBits .f32 0x00000000#32))
            (Scalar.subf (Scalar.addf P (Scalar.sitofp .f32 w)) I) (Scalar.ofBits .f32 0x3F800000#32)))
        (Scalar.ofBits .f32 0x00000000#32))
      = iou i p l := by
  subst hI hP
  have hs : Scalar.sitofp (F := Ideal) .f32 w = nat l := by
    rw [Ideal.scalar_sitofp_def, hw]; rfl
  rw [hs]
  show (Ideal.ofBits .f32 0x00000000#32 : EReal) + Scalar.select (BitVec.ofBool (decide (Ideal.ofBits .f32 0x00000000#32 < nat p + nat l - nat i)))
    (Ideal.div (nat i) (Scalar.select (BitVec.ofBool (decide (Ideal.ofBits .f32 0x00000000#32 < nat p + nat l - nat i))) (nat p + nat l - nat i) _))
    (Ideal.ofBits .f32 0x00000000#32) = _
  rw [Ideal.ofBits_zero_f32, zero_add]
  unfold iou
  by_cases h : 0 < nat p + nat l - nat i
  · rw [if_pos h, decide_eq_true h]; rfl
  · rw [if_neg h, decide_eq_false h]; rfl

set_option maxHeartbeats 1600000 in
/-- The first image's tile. -/
theorem endA (i p l : ℕ) (x : IVec S512x512 32) (hl : (total x).toInt = (l : ℤ)) (y : S1x8x128.Idx) :
    k0_pay19 (F := Ideal) (nat i) (nat p) (k0_pay17 x (k0_pay15 x (k0_pay13 x) (k0_pay14 x)) (k0_pay16 x)) (k0_pay18 x) y = iou i p l := by
  refine quot_eq i p l _ ?_ (nat i) (nat p) rfl rfl
  refine (congrArg BitVec.toInt (count_eq (x := x) ?_ _ _ _ _ _)).trans hl
  unfold k0_pay17 k0_pay15 k0_pay13 k0_pay14 k0_pay16 k0_pay18
  simp only [slice_eq]
  funext y
  simp only [bands, Finset.sum_range_succ, Finset.sum_range_zero, zero_add, Nat.reduceMul, mul_zero]
  rfl

set_option maxHeartbeats 1600000 in
/-- The second image's tile. -/
theorem endB (i p l : ℕ) (x : IVec S512x512 32) (hl : (total x).toInt = (l : ℤ)) (y : S1x8x128.Idx) :
    k0_pay1 (k0_pay37 (F := Ideal) x (nat i) (nat p) (k0_pay35 x (k0_pay33 x) (k0_pay34 x)) (k0_pay36 x)) y = iou i p l := by
  refine quot_eq i p l _ ?_ (nat i) (nat p) rfl rfl
  refine (congrArg BitVec.toInt (count_eq (x := x) ?_ _ _ _ _ _)).trans hl
  unfold k0_pay35 k0_pay33 k0_pay34 k0_pay36
  simp only [slice_eq]
  funext y
  simp only [bands, Finset.sum_range_succ, Finset.sum_range_zero, zero_add, Nat.reduceMul, mul_zero]
  rfl

/-! ## The planes -/

/-- The prediction plane at a pixel. -/
theorem pos_apply (v0 v2 : Vec Ideal S1x1x512x512 .f32) (r c : Fin 512) :
    k0_pay3 v0 v2 (ix2 r c) = posW (v0 (ix4 0 0 r c)) (v2 (ix4 0 0 r c)) := by
  have e : ∀ v : Vec Ideal S1x1x512x512 .f32, (shapeCast S512x512 v shapeCasts_S1x1x512x512_S512x512 : FVec Ideal S512x512 .f32) (ix2 r c) = v (ix4 0 0 r c) :=
    fun v => shapeCast_apply v _ _ _ ((Shape.rowMajor_val_four (d := ![1, 1, 512, 512]) _).trans (.trans (by simp) (Shape.rowMajor_val_two (d := ![512, 512]) _).symm))
  unfold k0_pay3
  show Scalar.select (Ideal.cmp .ogt (_ - _) (Ideal.ofBits .f32 0x00000000#32)) (1#32) (0#32) = _
  rw [e, e, Ideal.ofBits_zero_f32]
  show Scalar.select (BitVec.ofBool (decide ((0 : EReal) < v2 (ix4 0 0 r c) - v0 (ix4 0 0 r c)))) _ _ = _
  unfold posW
  by_cases h : (0 : EReal) < v2 (ix4 0 0 r c) - v0 (ix4 0 0 r c)
  · rw [if_pos h, decide_eq_true h]; rfl
  · rw [if_neg h, decide_eq_false h]; rfl

/-- The label plane at a pixel. -/
theorem lab_apply (v4 : Vec Ideal S1x512x512 .i32) (r c : Fin 512) : k0_pay2 (F := Ideal) v4 (ix2 r c) = v4 (ix3 0 r c) := by
  unfold k0_pay2
  exact shapeCast_apply v4 _ _ _ ((Shape.rowMajor_val_three (d := ![1, 512, 512]) _).trans (.trans (by simp) (Shape.rowMajor_val_two (d := ![512, 512]) _).symm))

/-- One image's counts from its planes: the words the program sums, and what the sums are. -/
theorem counts_eq (P : Scores.Idx → EReal) (T : Labels.Idx → BitVec 32) (hT : Binary T) (b : Fin 16)
    (v0 v2 : Vec Ideal S1x1x512x512 .f32) (v4 : Vec Ideal S1x512x512 .i32)
    (h0 : ∀ r c, v0 (ix4 0 0 r c) = P (ix4 b 0 r c)) (h2 : ∀ r c, v2 (ix4 0 0 r c) = P (ix4 b 1 r c)) (h4 : ∀ r c, v4 (ix3 0 r c) = T (ix3 b r c)) :
    (total (k0_pay4 v0 v2 v4)).toInt = (nI P T b : ℤ) ∧ (total (k0_pay3 v0 v2)).toInt = (nP P b : ℤ) ∧ (total (k0_pay2 (F := Ideal) v4)).toInt = (nL T b : ℤ) := by
  have e3 : ∀ r c, k0_pay3 v0 v2 (ix2 r c) = posW (P (ix4 b 0 r c)) (P (ix4 b 1 r c)) := fun r c => by rw [pos_apply, h0, h2]
  have e2 : ∀ r c, k0_pay2 (F := Ideal) v4 (ix2 r c) = T (ix3 b r c) := fun r c => by rw [lab_apply, h4]
  have e4 : ∀ r c, k0_pay4 v0 v2 v4 (ix2 r c) = posW (P (ix4 b 0 r c)) (P (ix4 b 1 r c)) &&& T (ix3 b r c) := fun r c => by
    rw [← e3, ← e2]; rfl
  refine ⟨?_, ?_, ?_⟩
  · rw [total_toInt _ fun r c => by rw [e4, BitVec.toNat_and]; exact Nat.and_le_left.trans (posW_le _ _)]
    simp only [e4]; rfl
  · rw [total_toInt _ fun r c => by rw [e3]; exact posW_le _ _]
    simp only [e3]; rfl
  · rw [total_toInt _ fun r c => by rw [e2]; exact hT _]
    simp only [e2]; rfl

/-! ## The block -/

/-- The block's two tiles: image 0's is under the first store, -/
theorem canonA (w7 : S1x8x128.Idx → Elt Ideal .f32) (w3 : S1x8x128.Idx → Elt Ideal .f32) (r : Fin 8) (l : Fin 128) :
    View.canon ([⟨r0_7, w7⟩, ⟨r0_3, w3⟩] : List (View.Piece (Elt Ideal) S2x8x128 .f32)) (ix3 0 r l) = w3 (ix3 0 r l) := by
  have hm : (ix3 0 r l : S2x8x128.Idx) ∉ r0_7.set := by
    rw [Rect.mem_set_unit]; intro h; have := (h 0).1; simp at this
  have he : (ix3 0 r l : S2x8x128.Idx) = r0_3.emb (ix3 0 r l) := by
    funext a; apply Fin.ext
    match a with
    | ⟨0, _⟩ => rfl
    | ⟨1, _⟩ => show r.val = 0 + 1 * r.val; omega
    | ⟨2, _⟩ => show l.val = 0 + 1 * l.val; omega
  refine (View.canon_cons_of_not_mem (⟨r0_7, w7⟩ : View.Piece (Elt Ideal) S2x8x128 .f32) _ hm).trans ?_
  rw [he]
  exact View.canon_cons_emb r0_3 w3 [] (ix3 0 r l)

/-- image 1's under the second. -/
theorem canonB (w7 : S1x8x128.Idx → Elt Ideal .f32) (w3 : S1x8x128.Idx → Elt Ideal .f32) (r : Fin 8) (l : Fin 128) :
    View.canon ([⟨r0_7, w7⟩, ⟨r0_3, w3⟩] : List (View.Piece (Elt Ideal) S2x8x128 .f32)) (ix3 1 r l) = w7 (ix3 0 r l) := by
  have he : (ix3 1 r l : S2x8x128.Idx) = r0_7.emb (ix3 0 r l) := by
    funext a; apply Fin.ext
    match a with
    | ⟨0, _⟩ => rfl
    | ⟨1, _⟩ => show r.val = 0 + 1 * r.val; omega
    | ⟨2, _⟩ => show l.val = 0 + 1 * l.val; omega
  rw [he]
  exact View.canon_cons_emb r0_7 w7 _ (ix3 0 r l)

/-- The loads read the block at the rectangle's offset. -/
theorem ld4 (x0 : Vec Ideal S2x2x512x512 .f32) (k ch : Fin 2) (inb) (r c : Fin 512) :
    View.ld x0 (Rect.unit (s := S2x2x512x512) ![k.val, ch.val, 0, 0] S1x1x512x512.size inb) (ix4 0 0 r c) = x0 (ix4 k ch r c) := by
  refine congrArg x0 ?_
  funext a; apply Fin.ext
  match a with
  | ⟨0, _⟩ => show k.val + 1 * 0 = k.val; omega
  | ⟨1, _⟩ => show ch.val + 1 * 0 = ch.val; omega
  | ⟨2, _⟩ => show 0 + 1 * r.val = r.val; omega
  | ⟨3, _⟩ => show 0 + 1 * c.val = c.val; omega

theorem ld3 (x1 : Vec Ideal S2x512x512 .i32) (k : Fin 2) (inb) (r c : Fin 512) :
    View.ld x1 (Rect.unit (s := S2x512x512) ![k.val, 0, 0] S1x512x512.size inb) (ix3 0 r c) = x1 (ix3 k r c) := by
  refine congrArg x1 ?_
  funext a; apply Fin.ext
  match a with
  | ⟨0, _⟩ => show k.val + 1 * 0 = k.val; omega
  | ⟨1, _⟩ => show 0 + 1 * r.val = r.val; omega
  | ⟨2, _⟩ => show 0 + 1 * c.val = c.val; omega

/-- Image 0 of the block: its quotient, on the whole tile. -/
theorem blockA (P : Scores.Idx → EReal) (T : Labels.Idx → BitVec 32) (hT : Binary T) (b : Fin 16)
    (x0 : Vec Ideal S2x2x512x512 .f32) (x1 : Vec Ideal S2x512x512 .i32)
    (h0 : ∀ ch r c, x0 (ix4 0 ch r c) = P (ix4 b ch r c)) (h1 : ∀ r c, x1 (ix3 0 r c) = T (ix3 b r c)) (r : Fin 8) (l : Fin 128) :
    out0_2 x0 x1 (ix3 0 r l) = iou (nI P T b) (nP P b) (nL T b) := by
  obtain ⟨hi, hp, hl⟩ := counts_eq P T hT b (View.ld x0 r0_0) (View.ld x0 r0_1) (View.ld x1 r0_2)
    (fun r c => (ld4 x0 0 0 _ r c).trans (h0 0 r c)) (fun r c => (ld4 x0 0 1 _ r c).trans (h0 1 r c)) (fun r c => (ld3 x1 0 _ r c).trans (h1 r c))
  unfold out0_2 k0_pay40 k0_pay39 k0_pay38
  refine (canonA _ _ r l).trans ?_
  rw [interA, predA, hi, hp]
  exact endA _ _ _ _ hl _

/-- Image 1 of the block. -/
theorem blockB (P : Scores.Idx → EReal) (T : Labels.Idx → BitVec 32) (hT : Binary T) (b : Fin 16)
    (x0 : Vec Ideal S2x2x512x512 .f32) (x1 : Vec Ideal S2x512x512 .i32)
    (h0 : ∀ ch r c, x0 (ix4 1 ch r c) = P (ix4 b ch r c)) (h1 : ∀ r c, x1 (ix3 1 r c) = T (ix3 b r c)) (r : Fin 8) (l : Fin 128) :
    out0_2 x0 x1 (ix3 1 r l) = iou (nI P T b) (nP P b) (nL T b) := by
  obtain ⟨hi, hp, hl⟩ := counts_eq P T hT b (View.ld x0 r0_4) (View.ld x0 r0_5) (View.ld x1 r0_6)
    (fun r c => (ld4 x0 1 0 _ r c).trans (h0 0 r c)) (fun r c => (ld4 x0 1 1 _ r c).trans (h0 1 r c)) (fun r c => (ld3 x1 1 _ r c).trans (h1 r c))
  have hi' : (total (k0_pay22 (View.ld x0 r0_4) (View.ld x0 r0_5) (View.ld x1 r0_6))).toInt = (nI P T b : ℤ) := hi
  have hp' : (total (k0_pay21 (View.ld x0 r0_4) (View.ld x0 r0_5))).toInt = (nP P b : ℤ) := hp
  unfold out0_2 k0_pay43 k0_pay42 k0_pay41
  refine (canonB _ _ r l).trans ?_
  rw [interB, predB, hi', hp']
  exact endB _ _ _ _ hl _

/-- The block at any index: its image's quotient. -/
theorem block_eq (P : Scores.Idx → EReal) (T : Labels.Idx → BitVec 32) (hT : Binary T) (b : Fin 2 → Fin 16)
    (x0 : Vec Ideal S2x2x512x512 .f32) (x1 : Vec Ideal S2x512x512 .i32)
    (h0 : ∀ k ch r c, x0 (ix4 k ch r c) = P (ix4 (b k) ch r c)) (h1 : ∀ k r c, x1 (ix3 k r c) = T (ix3 (b k) r c))
    (k : Fin 2) (r : Fin 8) (l : Fin 128) :
    out0_2 x0 x1 (ix3 k r l) = iou (nI P T (b k)) (nP P (b k)) (nL T (b k)) := by
  match k with
  | ⟨0, _⟩ => exact blockA P T hT (b 0) x0 x1 (h0 0) (h1 0) r l
  | ⟨1, _⟩ => exact blockB P T hT (b 1) x0 x1 (h0 1) (h1 1) r l

end Cert.KernelIdeal.Val

end
-- ==== Proof.Array.lean ====
/- THE RESULT ARRAY of the TensorCore program: every image's tile holds its quotient, and the line after the region reads
   the tile's first element. -/
module

public import proofs.«01_k».proof.Proof.Block
public import Idealize.ShloMosaic.Lib.Pipeline.ValueKit
public import Idealize.ShloMosaic.Lib.Claim

@[expose] public section

set_option maxRecDepth 16384

noncomputable section

namespace Cert.KernelIdeal.Val

open Idealize.ShloMosaic hiding ix2 ix3 ix4
open Idealize.ShloMosaic.ValueIdx Idealize.ShloMosaic.TcCoe
open Idealize.SL Idealize.SL.Sem
open Cert.KernelIdeal Cert.KernelIdeal.Gen Cert.Iou

/-- Every image's quotient. -/
def quot (P : Scores.Idx → EReal) (T : Labels.Idx → BitVec 32) (b : Fin 16) : EReal := iou (nI P T b) (nP P b) (nL T b)

variable (m : (ℓ : Loc nD τ sig) → Buf (Elt Ideal) ℓ) (ρ : Dev nD → PrngReg)

/-- The arguments' contents. -/
abbrev argP (c : Dev nD) : Scores.Idx → EReal := m ((c.tc : Thread nD τ).loc main_arg0)
abbrev argT (c : Dev nD) : Labels.Idx → BitVec 32 := m ((c.tc : Thread nD τ).loc main_arg1)

/-- The blocks' indices at a grid point. -/
theorem idx : ∀ t : Fin cfg0.N, win0_0.index t = ![t.val, 0, 0, 0] ∧ win0_1.index t = ![t.val, 0, 0] ∧ win0_2.index t = ![t.val, 0, 0] :=
  (by decide +kernel : ∀ t : Fin grid0.N, _)

theorem N_le (t : Fin cfg0.N) : t.val < 8 := lt_of_lt_of_eq t.isLt (by decide)

/-- The two images of a point. -/
def img (t : Fin cfg0.N) (k : Fin 2) : Fin 16 := ⟨2 * t.val + k.val, by have := N_le t; omega⟩

theorem blk0 (c : Dev nD) (t : Fin cfg0.N) (k ch : Fin 2) (r l : Fin 512) :
    iblk m c 0 t (ix4 k ch r l) = argP m c (ix4 (img t k) ch r l) := by
  blk_simp [iblk, (idx t).1]
  refine congrArg (argP m c) ?_
  have := N_le t
  blk_ext [(idx t).1]
  show t.val * 2 + k.val = 2 * t.val + k.val
  omega

theorem blk1 (c : Dev nD) (t : Fin cfg0.N) (k : Fin 2) (r l : Fin 512) :
    iblk m c 1 t (ix3 k r l) = argT m c (ix3 (img t k) r l) := by
  blk_simp [iblk, (idx t).2.1]
  refine congrArg (argT m c) ?_
  have := N_le t
  blk_ext [(idx t).2.1]
  show t.val * 2 + k.val = 2 * t.val + k.val
  omega

/-- The array the region writes. -/
def tiles (c : Dev nD) : FVec Ideal S16x8x128 .f32 := fun i => quot (argP m c) (argT m c) (i 0)

/-- The array after the region. -/
theorem final (c : Dev nD) (hT : Binary (argT m c)) : (dats m 0 c).arrAt 2 cfg0.N = tiles m c := by
  refine (dats m 0 c).arrAt_eq_of_covers 2 _ (by decide +kernel) fun t hf y => ?_
  blk_simp
  rw [after0_2]
  have hy : y = ix3 (y 0) (y 1) (y 2) := ValueIdx.eq_ix3 y
  rw [hy]
  refine (block_eq (argP m c) (argT m c) hT (img t) _ _ (blk0 m c t) (blk1 m c t) (y 0) (y 1) (y 2)).trans ?_
  show quot (argP m c) (argT m c) (img t (y 0)) = quot (argP m c) (argT m c) _
  refine congrArg _ (Fin.ext ?_)
  blk_simp [(idx t).2.2]
  show 2 * t.val + (y 0).val = t.val * 2 + (y 0).val
  omega

/-- Image `i`'s quotient, as the program's result. -/
def result (c : Dev nD) : FVec Ideal S16 .f32 := fun i => quot (argP m c) (argT m c) (i 0)

/-- The run: the result holds the quotients, and the arguments stay. -/
theorem run (hT : ∀ c, Binary (argT m c)) : θ_run defs (onTc (τ := τ) (main (F := Ideal))) ⟨m, fun _ => 0, ρ⟩ fun r => ∀ c : Dev nD,
    r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Gen.run_main m ρ
  have h0 : Pipeline.withArrays (cfgs 0).spec c (V0 m c) (fun w => (dats m 0 c).arrAt w (cfgs 0).N) (Proc.devRef .tc main_v0) = tiles m c :=
    (Pipeline.withArrays_arr (cfgs 0).spec (by decide) c (V0 m c) (fun w => (dats m 0 c).arrAt w (cfgs 0).N) 2).trans (final m c (hT c))
  show StableHlo.after hostOps1 (Pipeline.withArrays (cfgs 0).spec c (V0 m c) (fun w => (dats m 0 c).arrAt w (cfgs 0).N)) (Proc.devRef .tc main_v2) = _
  generalize Pipeline.withArrays (cfgs 0).spec c (V0 m c) (fun w => (dats m 0 c).arrAt w (cfgs 0).N) = W at h0 ⊢
  after_results
  funext i
  show shapeCast S16 (extractStridedSlice S16x1x1 ![0, 0, 0] (W (Proc.devRef .tc main_v0)) slices_S16x8x128_S16x1x1_0_0_0) shapeCasts_S16x1x1_S16 i = _
  rw [h0]
  refine (shapeCast_apply (t := S16) _ shapeCasts_S16x1x1_S16 i (ix3 (i 0) 0 0)
    ((Shape.rowMajor_val_three (d := ![16, 1, 1]) _).trans (.trans (by simp) (Shape.rowMajor_val_one (d := ![16]) _).symm))).trans ?_
  refine (extractStridedSlice_apply _ (tiles m c) slices_S16x8x128_S16x1x1_0_0_0 (ix3 (i 0) 0 0) (ix3 (i 0) 0 0) fun a => ?_).trans rfl
  match a with
  | ⟨0, _⟩ => show (i 0).val = 0 + (i 0).val; omega
  | ⟨1, _⟩ => rfl
  | ⟨2, _⟩ => rfl

end Cert.KernelIdeal.Val

end
-- ==== Proof.Pixel.lean ====
/- ONE PIXEL of the plain program, and the sum over an image's pixels: each of the three indicator arrays is a 0/1 real at
   a pixel, the one its count adds up, and the host's sum over rows and columns is the count. Nothing here names a
   program. -/
module

public import proofs.«01_k».proof.Proof.Count
public import Idealize.ShloMosaic.Lib.Pointwise.Reduce
public import Idealize.ShloMosaic.Lib.WordCmp
public import Idealize.ShloMosaic.Lib.ReduceAll

@[expose] public section

noncomputable section

namespace Cert.Iou

open Idealize.ShloMosaic hiding ix2 ix3 ix4
open Idealize.ShloMosaic.ValueIdx

/-! ## A pixel -/

/-- The words of the real constants. -/
abbrev zeroW : Ideal .f32 := FloatOps.ofBits .f32 0x00000000#32
abbrev oneW : Ideal .f32 := FloatOps.ofBits .f32 0x3F800000#32

theorem zeroW_eq : zeroW = (0 : EReal) := Ideal.ofBits_zero_f32
theorem oneW_eq : oneW = (1 : EReal) := Ideal.ofBits_one_f32

/-- "The predicted label is one." -/
theorem predicted (a b : Ideal .f32) :
    IntOp.cmpi .ne (FloatOps.cmpf .oeq (Scalar.select (FloatOps.cmpf .ogt (FloatOps.subf b a) zeroW) oneW zeroW) oneW) 0#1
      = BitVec.ofBool (decide ((0 : EReal) < (b : EReal) - (a : EReal))) := by
  rw [zeroW_eq, oneW_eq]
  show IntOp.cmpi .ne (Ideal.cmp .oeq (Scalar.select (Ideal.cmp .ogt ((b : EReal) - (a : EReal)) 0) (1 : EReal) 0) 1) 0#1 = _
  by_cases h : (0 : EReal) < (b : EReal) - (a : EReal)
  · simp [Ideal.cmp, Scalar.select, IntOp.cmpi, h]
  · simp [Ideal.cmp, Scalar.select, IntOp.cmpi, h]

/-- "The label is one", of a label that is 0 or 1. -/
theorem labelled (t : BitVec 32) (ht : t.toNat ≤ 1) :
    FloatOps.cmpf .oeq (FloatOps.sitofp .f32 t : Ideal .f32) oneW = BitVec.ofBool (decide (t = 1#32)) := by
  rw [oneW_eq]
  have h : t = 0#32 ∨ t = 1#32 := by
    rcases Nat.le_one_iff_eq_zero_or_eq_one.1 ht with h | h
    · exact Or.inl (BitVec.eq_of_toNat_eq h)
    · exact Or.inr (BitVec.eq_of_toNat_eq h)
  show Ideal.cmp .oeq (((t.toInt : ℝ) : EReal)) 1 = _
  rcases h with rfl | rfl
  · simp [Ideal.cmp]
  · simp [Ideal.cmp]

/-- "The label is not the ignored one." -/
theorem kept (t : BitVec 32) (ht : t.toNat ≤ 1) : IntOp.cmpi .ne t 255#32 = 1#1 := by
  have h : t ≠ 255#32 := by rintro rfl; simp at ht
  have e : (t != 255#32) = true := by simp [h]
  simp [IntOp.cmpi, e]

/-- The indicator of "predicted". -/
theorem indP (x y : EReal) (t : BitVec 32) (ht : t.toNat ≤ 1) :
    Scalar.select (IntOp.andi (IntOp.cmpi .ne t 255#32) (BitVec.ofBool (decide ((0 : EReal) < y - x)))) oneW zeroW
      = nat (posW x y).toNat := by
  rw [kept t ht, zeroW_eq, oneW_eq]
  unfold posW nat
  by_cases h : (0 : EReal) < y - x <;> simp [h, Scalar.select, IntOp.andi]

/-- The indicator of "labelled". -/
theorem indL (t : BitVec 32) (ht : t.toNat ≤ 1) :
    Scalar.select (IntOp.andi (IntOp.cmpi .ne t 255#32) (BitVec.ofBool (decide (t = 1#32)))) oneW zeroW = nat t.toNat := by
  rw [kept t ht, zeroW_eq, oneW_eq]
  rcases Nat.le_one_iff_eq_zero_or_eq_one.1 ht with h | h
  · obtain rfl : t = 0#32 := BitVec.eq_of_toNat_eq h
    simp [Scalar.select, IntOp.andi, nat]
  · obtain rfl : t = 1#32 := BitVec.eq_of_toNat_eq h
    simp [Scalar.select, IntOp.andi, nat]

/-- The indicator of both. -/
theorem indI (x y : EReal) (t : BitVec 32) (ht : t.toNat ≤ 1) :
    Scalar.select (IntOp.andi (IntOp.andi (IntOp.cmpi .ne t 255#32) (BitVec.ofBool (decide ((0 : EReal) < y - x))))
        (BitVec.ofBool (decide (t = 1#32)))) oneW zeroW
      = nat (posW x y &&& t).toNat := by
  rw [kept t ht, zeroW_eq, oneW_eq]
  rcases Nat.le_one_iff_eq_zero_or_eq_one.1 ht with h' | h'
  · obtain rfl : t = 0#32 := BitVec.eq_of_toNat_eq h'
    by_cases h : (0 : EReal) < y - x <;> simp [h, posW, Scalar.select, IntOp.andi, nat]
  · obtain rfl : t = 1#32 := BitVec.eq_of_toNat_eq h'
    by_cases h : (0 : EReal) < y - x <;> simp [h, posW, Scalar.select, IntOp.andi, nat]

/-! ## The sum over an image -/

/-- One result per image. -/
abbrev Images : Shape := ⟨1, ![16]⟩
/-- One value. -/
abbrev Unit0 : Shape := ⟨0, ![]⟩

/-- A sum of naturals in the extended reals. -/
theorem sum_nat {n k : ℕ} (f : Fin n → Fin k → ℕ) : ∑ r, ∑ c, nat (f r c) = nat (∑ r, ∑ c, f r c) := by
  unfold nat
  have e : ∀ (m : ℕ) (g : Fin m → ℝ), ∑ r, ((g r : ℝ) : EReal) = ((∑ r, g r : ℝ) : EReal) := fun m g => by
    induction m with
    | zero => simp
    | succ m ih => rw [Fin.sum_univ_succ, Fin.sum_univ_succ, ih, EReal.coe_add]
  rw [Finset.sum_congr rfl fun r _ => e _ _, e]
  push_cast
  rfl

/-- The host's sum over rows and columns of an array of naturals. -/
theorem hostSum (x : FVec Ideal Labels .f32) (z : FVec Ideal Unit0 .f32) (hz : ∀ i, z i = zeroW)
    (h : Labels.ReducesTo [1, 2] Images) (hu : 0 < Unit0.numel) (f : Fin 16 → Fin 512 → Fin 512 → ℕ)
    (hx : ∀ b r c, x (ix3 b r c) = nat (f b r c)) (j : Images.Idx) :
    Host.reduceAdd x z h hu j = nat (∑ r, ∑ c, f (j 0) r c) := by
  refine (Ideal.hostReduceAdd_r3_a12 h x _ j).trans ?_
  rw [hz, zeroW_eq, zero_add, ← sum_nat]
  exact Finset.sum_congr rfl fun r _ => Finset.sum_congr rfl fun c _ => hx _ _ _

/-! ## The quotient -/

/-- The plain quotient of the three counts where the union is not empty. -/
theorem div_eq {i p l : ℕ} (h : i ≤ p) (h0 : p + l - i ≠ 0) :
    (FloatOps.hostDivf (φ := .f32) (nat i : Ideal .f32) (FloatOps.subf (FloatOps.addf (nat p : Ideal .f32) (nat l : Ideal .f32)) (nat i : Ideal .f32)) : Ideal .f32)
      = (iou i p l : Ideal .f32) := by
  show Ideal.div (nat i) (nat p + nat l - nat i) = _
  unfold iou
  rw [if_pos]
  rw [union_eq h, nat_pos]; omega

/-- Zero where the union is zero, the quotient elsewhere. -/
theorem total_eq {i p l : ℕ} (h : i ≤ p) :
    Scalar.select (FloatOps.cmpf (φ := .f32) .oeq (FloatOps.subf (φ := .f32) (FloatOps.addf (nat p : Ideal .f32) (nat l : Ideal .f32)) (nat i : Ideal .f32)) zeroW) zeroW
        (FloatOps.hostDivf (φ := .f32) (nat i : Ideal .f32) (FloatOps.subf (FloatOps.addf (nat p : Ideal .f32) (nat l : Ideal .f32)) (nat i : Ideal .f32)))
      = (iou i p l : Ideal .f32) := by
  by_cases h0 : p + l - i = 0
  · have e : FloatOps.cmpf (φ := .f32) .oeq (FloatOps.subf (φ := .f32) (FloatOps.addf (nat p : Ideal .f32) (nat l : Ideal .f32)) (nat i : Ideal .f32)) zeroW = 1#1 := by
      rw [zeroW_eq]
      show Ideal.cmp .oeq (nat p + nat l - nat i) 0 = 1#1
      rw [union_eq h, h0]; simp [Ideal.cmp, nat]
    rw [e, iou_eq h, if_pos h0]
    exact zeroW_eq
  · have e : FloatOps.cmpf (φ := .f32) .oeq (FloatOps.subf (φ := .f32) (FloatOps.addf (nat p : Ideal .f32) (nat l : Ideal .f32)) (nat i : Ideal .f32)) zeroW = 0#1 := by
      rw [zeroW_eq]
      show Ideal.cmp .oeq (nat p + nat l - nat i) 0 = 0#1
      have : nat (p + l - i) ≠ 0 := fun e => h0 (nat_eq_zero.1 e)
      rw [union_eq h]; simp only [Ideal.cmp, decide_eq_false this]; rfl
    rw [e]
    exact div_eq h h0

/-- The quotient is a real. -/
theorem iou_real {i p l : ℕ} (h : i ≤ p) : ∃ r : ℝ, iou i p l = (r : EReal) := by
  rw [iou_eq h]
  split
  · exact ⟨0, by simp⟩
  · exact ⟨_, rfl⟩

end Cert.Iou

end
-- ==== Proof.TotalValue.lean ====
/- THE PLAIN PROGRAM whose quotient is set to zero where the union is empty: its result at an image is the quotient of the
   image's three counts. -/
module

public import proofs.«01_k».proof.Proof.Pixel
public import proofs.«01_k».proof.Proof.Gen.TotalIdeal.Read

@[expose] public section

noncomputable section

namespace Cert.TotalIdeal.Val

open Idealize.ShloMosaic hiding ix2 ix3 ix4
open Idealize.ShloMosaic.ValueIdx Cert.TotalIdeal.Read Cert.Iou

variable (P : FVec Ideal Scores .f32) (T : IVec Labels 32)

/-- The score of channel one at a pixel. -/
theorem score1 (b : Fin 16) (r c : Fin 512) : val_main_v1 (F := Ideal) P (ix3 b r c) = P (ix4 b 1 r c) := by
  rw [val_main_v1_apply, val_main_v0_apply]
  refine congrArg P (funext fun a => Fin.ext ?_)
  have hb := b.isLt; have hr := r.isLt; have hc := c.isLt
  match a with
  | ⟨0, _⟩ => show ((b.val * 512 + r.val) * 512 + c.val) / 262144 = b.val; omega
  | ⟨1, _⟩ => rfl
  | ⟨2, _⟩ => show ((b.val * 512 + r.val) * 512 + c.val) / 512 % 512 = r.val; omega
  | ⟨3, _⟩ => show ((b.val * 512 + r.val) * 512 + c.val) % 512 = c.val; omega

/-- The score of channel zero at a pixel. -/
theorem score0 (b : Fin 16) (r c : Fin 512) : val_main_v3 (F := Ideal) P (ix3 b r c) = P (ix4 b 0 r c) := by
  rw [val_main_v3_apply, val_main_v2_apply]
  refine congrArg P (funext fun a => Fin.ext ?_)
  have hb := b.isLt; have hr := r.isLt; have hc := c.isLt
  match a with
  | ⟨0, _⟩ => show ((b.val * 512 + r.val) * 512 + c.val) / 262144 = b.val; omega
  | ⟨1, _⟩ => rfl
  | ⟨2, _⟩ => show ((b.val * 512 + r.val) * 512 + c.val) / 512 % 512 = r.val; omega
  | ⟨3, _⟩ => show ((b.val * 512 + r.val) * 512 + c.val) % 512 = c.val; omega

variable (hT : Binary T)
include hT

/-- The indicator of "predicted and labelled". -/
theorem v21_eq (b : Fin 16) (r c : Fin 512) :
    val_main_v21 (F := Ideal) P T (ix3 b r c) = nat (posW (P (ix4 b 0 r c)) (P (ix4 b 1 r c)) &&& T (ix3 b r c)).toNat := by
  rw [val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_call0_v0_apply, val_main_call0_v1_apply, val_main_call1_v0_apply, val_main_call1_v1_apply, score0, score1]
  refine Eq.trans ?_ (indI _ _ _ (hT _))
  rw [← predicted (P (ix4 b 0 r c)) (P (ix4 b 1 r c)), ← labelled (T (ix3 b r c)) (hT _)]
  rfl

/-- The indicator of "predicted". -/
theorem v30_eq (b : Fin 16) (r c : Fin 512) :
    val_main_v30 (F := Ideal) P T (ix3 b r c) = nat (posW (P (ix4 b 0 r c)) (P (ix4 b 1 r c))).toNat := by
  rw [val_main_v30_apply, val_main_v29_apply, val_main_v28_apply, val_main_v27_apply, val_main_v26_apply, val_main_v25_apply,
    val_main_v24_apply, val_main_v23_apply,
    val_main_v9_apply, val_main_v8_apply, val_main_v7_apply, val_main_v6_apply, val_main_v5_apply, val_main_v4_apply,
    val_main_call0_v0_apply, val_main_call0_v1_apply, val_main_call2_v0_apply, val_main_call2_v1_apply, score0, score1]
  refine Eq.trans ?_ (indP _ _ _ (hT (ix3 b r c)))
  rw [← predicted (P (ix4 b 0 r c)) (P (ix4 b 1 r c))]
  rfl

/-- The indicator of "labelled". -/
theorem v36_eq (b : Fin 16) (r c : Fin 512) : val_main_v36 (F := Ideal) T (ix3 b r c) = nat (T (ix3 b r c)).toNat := by
  rw [val_main_v36_apply, val_main_v35_apply, val_main_v34_apply, val_main_v33_apply, val_main_v32_apply, val_main_v10_apply,
    val_main_v9_apply, val_main_v8_apply, val_main_call3_v0_apply, val_main_call3_v1_apply]
  refine Eq.trans ?_ (indL _ (hT _))
  rw [← labelled (T (ix3 b r c)) (hT _)]
  rfl

/-- The three counts of an image. -/
theorem v22_eq (j : Images.Idx) : val_main_v22 (F := Ideal) P T j = nat (nI P T (j 0)) :=
  hostSum _ _ (fun _ => rfl) _ _ (fun b r c => (posW (P (ix4 b 0 r c)) (P (ix4 b 1 r c)) &&& T (ix3 b r c)).toNat) (v21_eq P T hT) j
theorem v31_eq (j : Images.Idx) : val_main_v31 (F := Ideal) P T j = nat (nP P (j 0)) :=
  hostSum _ _ (fun _ => rfl) _ _ (fun b r c => (posW (P (ix4 b 0 r c)) (P (ix4 b 1 r c))).toNat) (v30_eq P T hT) j
theorem v37_eq (j : Images.Idx) : val_main_v37 (F := Ideal) T j = nat (nL T (j 0)) :=
  hostSum _ _ (fun _ => rfl) _ _ (fun b r c => (T (ix3 b r c)).toNat) (v36_eq T hT) j

/-- The result. -/
theorem value (j : Images.Idx) : val_main_v43 (F := Ideal) P T j = iou (nI P T (j 0)) (nP P (j 0)) (nL T (j 0)) := by
  rw [val_main_v43_apply, val_main_v42_apply, val_main_v41_apply, val_main_v40_apply, val_main_v39_apply, val_main_v38_apply,
    val_main_call4_v1_apply, val_main_call4_v0_apply, v22_eq P T hT, v31_eq P T hT, v37_eq T hT]
  exact total_eq (nI_le_nP P T _)

end Cert.TotalIdeal.Val

end
-- ==== Proof.Masks.lean ====
/- THE STATED CONDITIONS, READ BACK: "every target is 0 or 1" over the words, and "the union is not empty" as a positive
   count; and the clean-up of special values, which leaves a real alone. Nothing here names a kernel. -/
module

public import proofs.«01_k».proof.Proof.Pixel
public import proofs.«01_k».proof.Pre_targets_binary
public import proofs.«01_k».proof.On_union_nonempty

@[expose] public section

noncomputable section

namespace Cert.Iou

open Idealize.ShloMosaic hiding ix2 ix3 ix4
open Idealize.ShloMosaic.ValueIdx

/-! ## The precondition -/

instance : Subsingleton Cert.Pre_targets_binary.S_.Idx := ⟨fun a b => funext fun d => d.elim0⟩

/-- The stated precondition bounds every target by one. -/
theorem binary_of_pre [Cert.Pre_targets_binary.Facts] (P : FVec Ideal Scores .f32) (T : IVec Labels 32)
    (h : Cert.Pre_targets_binary.fn (F := Ideal) P T = fun _ => 1#1) : Binary T := by
  intro i
  have e := Host.reduce_andi_all _ _ _ _ ValueIdx.ix0 (congrFun h ValueIdx.ix0) i
  have e' : IntOp.ori (IntOp.cmpi .eq (T i) 0#32) (IntOp.cmpi .eq (T i) 1#32) = 1#1 := e
  generalize T i = t at e'
  by_cases h0 : t = 0#32
  · subst h0; decide
  by_cases h1 : t = 1#32
  · subst h1; decide
  have b0 : (t == 0#32) = false := by simp [h0]
  have b1 : (t == 1#32) = false := by simp [h1]
  simp [IntOp.cmpi, IntOp.ori, b0, b1] at e'

/-! ## The mask -/

/-- A left fold by `or` that came out 1 from 0 met a 1. -/
theorem foldl_ori {ι : Type} (f : ι → BitVec 1) :
    ∀ (l : List ι) (z : BitVec 1), l.foldl (fun r n => IntOp.ori r (f n)) z = 1#1 → z = 1#1 ∨ ∃ n ∈ l, f n = 1#1
  | [], _, h => Or.inl h
  | a :: l, z, h => by
    rcases foldl_ori f l _ h with h | ⟨n, hn, h⟩
    · by_cases ha : f a = 1#1
      · exact Or.inr ⟨a, List.mem_cons_self .., ha⟩
      · left
        replace h : IntOp.ori z (f a) = 1#1 := h
        rw [eq_zero_of_ne_one ha] at h
        simpa [IntOp.ori] using h
    · exact Or.inr ⟨n, List.mem_cons_of_mem _ hn, h⟩

/-- A positive term makes a double sum positive. -/
theorem sum_sum_pos {n k : ℕ} (f : Fin n → Fin k → ℕ) (r : Fin n) (c : Fin k) (h : 0 < f r c) : 0 < ∑ r, ∑ c, f r c :=
  lt_of_lt_of_le h ((Finset.single_le_sum (fun _ _ => Nat.zero_le _) (Finset.mem_univ c)).trans
    (Finset.single_le_sum (f := fun r => ∑ c, f r c) (fun _ _ => Nat.zero_le _) (Finset.mem_univ r)))

/-- One channel of the scores, its unit axis dropped, at a pixel. -/
theorem channel (P : FVec Ideal Scores .f32) (k : Fin 2) (o : Fin 4 → ℕ) (ho : o = ![0, k.val, 0, 0])
    (h : Scores.Slices o ⟨4, ![16, 1, 512, 512]⟩) (h' : (⟨4, ![16, 1, 512, 512]⟩ : Shape).ShapeCasts Labels) (b : Fin 16) (r c : Fin 512) :
    shapeCast Labels (extractStridedSlice ⟨4, ![16, 1, 512, 512]⟩ o P h) h' (ix3 b r c) = P (ix4 b k r c) := by
  subst ho
  rw [shapeCast_apply _ h' (ix3 b r c) (ix4 b 0 r c) ((Shape.rowMajor_val_four (d := ![16, 1, 512, 512]) _).trans
    (.trans (by simp) (Shape.rowMajor_val_three (d := ![16, 512, 512]) _).symm))]
  exact extractStridedSlice_apply _ P h (ix4 b 0 r c) (ix4 b k r c) (fun a => match a with
    | ⟨0, _⟩ => by simp
    | ⟨1, _⟩ => by simp
    | ⟨2, _⟩ => by simp
    | ⟨3, _⟩ => by simp)

/-- Where the stated mask holds, the image's union has a pixel. -/
theorem union_of_on [Cert.On_union_nonempty.Facts] (P : FVec Ideal Scores .f32) (T : IVec Labels 32) (j : Images.Idx)
    (h : Cert.On_union_nonempty.fn (F := Ideal) P T j = 1#1) : nP P (j 0) + nL T (j 0) - nI P T (j 0) ≠ 0 := by
  have hp : 0 < nP P (j 0) ∨ 0 < nL T (j 0) := by
    unfold Cert.On_union_nonempty.fn at h
    dsimp only at h
    rw [Host.reduce_eq_foldl] at h
    rcases foldl_ori _ _ _ h with h | ⟨i, hi, h⟩
    · exact absurd (show (0#1 : BitVec 1) = 1#1 from h) (by decide)
    rw [List.mem_filter] at hi
    have hd : (Cert.On_union_nonempty.Facts.reducesTo_S16x512x512_S16_d1_2).drop i = j := by simpa using hi.2
    have h0 : i 0 = j 0 := by
      apply Fin.ext
      exact congrArg Fin.val (congrFun hd 0)
    obtain ⟨b, r, c, rfl⟩ : ∃ (b : Fin 16) (r c : Fin 512), i = ix3 b r c := ⟨i 0, i 1, i 2, ValueIdx.eq_ix3 i⟩
    suffices hs : 0 < nP P b ∨ 0 < nL T b by
      have hb : b = j 0 := h0
      subst hb
      exact hs
    have h' : IntOp.ori (FloatOps.cmpf (φ := .f32) .ogt (FloatOps.subf
        (shapeCast Labels (extractStridedSlice ⟨4, ![16, 1, 512, 512]⟩ ![0, 1, 0, 0] P
          Cert.On_union_nonempty.Facts.slices_S16x2x512x512_S16x1x512x512_0_1_0_0) Cert.On_union_nonempty.Facts.shapeCasts_S16x1x512x512_S16x512x512 (ix3 b r c))
        (shapeCast Labels (extractStridedSlice ⟨4, ![16, 1, 512, 512]⟩ ![0, 0, 0, 0] P
          Cert.On_union_nonempty.Facts.slices_S16x2x512x512_S16x1x512x512_0_0_0_0) Cert.On_union_nonempty.Facts.shapeCasts_S16x1x512x512_S16x512x512 (ix3 b r c))) zeroW)
        (IntOp.cmpi .eq (T (ix3 b r c)) 1#32) = 1#1 := h
    rw [channel P 1 _ (by rfl), channel P 0 _ (by rfl), zeroW_eq] at h'
    replace h' : IntOp.ori (BitVec.ofBool (decide ((0 : EReal) < P (ix4 b 1 r c) - P (ix4 b 0 r c))))
        (BitVec.ofBool (T (ix3 b r c) == 1#32)) = 1#1 := h'
    by_cases hq : (0 : EReal) < P (ix4 b 1 r c) - P (ix4 b 0 r c)
    · exact Or.inl (sum_sum_pos _ r c (by unfold posW; rw [if_pos hq]; decide))
    · by_cases ht : T (ix3 b r c) = 1#32
      · exact Or.inr (sum_sum_pos _ r c (by rw [ht]; decide))
      · have : (T (ix3 b r c) == 1#32) = false := by simp [ht]
        rw [this, decide_eq_false hq] at h'
        exact absurd h' (by decide)
  have hi := nI_le_nP P T (j 0)
  have hi' := nI_le_nL P T (j 0)
  omega

/-! ## The clean-up of special values -/

theorem inf_eq : (FloatOps.ofBits .f32 0x7F800000#32 : Ideal .f32) = (⊤ : EReal) := by
  show Ideal.ieee 8 23 (0x7F800000#32 : BitVec 32) = _
  simp [Ideal.ieee]
theorem ninf_eq : (FloatOps.ofBits .f32 0xFF800000#32 : Ideal .f32) = (⊥ : EReal) := by
  show Ideal.ieee 8 23 (0xFF800000#32 : BitVec 32) = _
  simp [Ideal.ieee]

/-- The clean-up leaves a real alone. -/
theorem clean (x : Ideal .f32) (r : ℝ) (hx : x = (r : EReal)) (a b d : Ideal .f32) :
    (let y := Scalar.select (FloatOps.cmpf .une x x) a x
     let z := Scalar.select (FloatOps.cmpf .oeq y (FloatOps.ofBits .f32 0x7F800000#32)) b y
     Scalar.select (FloatOps.cmpf .oeq z (FloatOps.ofBits .f32 0xFF800000#32)) d z) = x := by
  have e1 : FloatOps.cmpf .une x x = 0#1 := by
    show Ideal.cmp .une x x = _; simp [Ideal.cmp]
  have e2 : FloatOps.cmpf .oeq x (FloatOps.ofBits .f32 0x7F800000#32) = 0#1 := by
    rw [inf_eq, hx]; show Ideal.cmp .oeq (r : EReal) ⊤ = _; simp [Ideal.cmp]
  have e3 : FloatOps.cmpf .oeq x (FloatOps.ofBits .f32 0xFF800000#32) = 0#1 := by
    rw [ninf_eq, hx]; show Ideal.cmp .oeq (r : EReal) ⊥ = _; simp [Ideal.cmp]
  simp only [e1, select_zero, e2, e3]

end Cert.Iou

end
-- ==== Proof.ReferenceValue.lean ====
/- THE PLAIN PROGRAM as it was given, which cleans special values off the quotient: where the union is not empty its result
   at an image is the quotient of the image's three counts. -/
module

public import proofs.«01_k».proof.Proof.Masks
public import proofs.«01_k».proof.Proof.Gen.ReferenceIdeal.Read

@[expose] public section

noncomputable section

namespace Cert.ReferenceIdeal.Val

open Idealize.ShloMosaic hiding ix2 ix3 ix4
open Idealize.ShloMosaic.ValueIdx Cert.ReferenceIdeal.Read Cert.Iou

variable (P : FVec Ideal Scores .f32) (T : IVec Labels 32)

/-- The score of channel one at a pixel. -/
theorem score1 (b : Fin 16) (r c : Fin 512) : val_main_v1 (F := Ideal) P (ix3 b r c) = P (ix4 b 1 r c) := by
  rw [val_main_v1_apply, val_main_v0_apply]
  refine congrArg P (funext fun a => Fin.ext ?_)
  have hb := b.isLt; have hr := r.isLt; have hc := c.isLt
  match a with
  | ⟨0, _⟩ => show ((b.val * 512 + r.val) * 512 + c.val) / 262144 = b.val; omega
  | ⟨1, _⟩ => rfl
  | ⟨2, _⟩ => show ((b.val * 512 + r.val) * 512 + c.val) / 512 % 512 = r.val; omega
  | ⟨3, _⟩ => show ((b.val * 512 + r.val) * 512 + c.val) % 512 = c.val; omega

/-- The score of channel zero at a pixel. -/
theorem score0 (b : Fin 16) (r c : Fin 512) : val_main_v3 (F := Ideal) P (ix3 b r c) = P (ix4 b 0 r c) := by
  rw [val_main_v3_apply, val_main_v2_apply]
  refine congrArg P (funext fun a => Fin.ext ?_)
  have hb := b.isLt; have hr := r.isLt; have hc := c.isLt
  match a with
  | ⟨0, _⟩ => show ((b.val * 512 + r.val) * 512 + c.val) / 262144 = b.val; omega
  | ⟨1, _⟩ => rfl
  | ⟨2, _⟩ => show ((b.val * 512 + r.val) * 512 + c.val) / 512 % 512 = r.val; omega
  | ⟨3, _⟩ => show ((b.val * 512 + r.val) * 512 + c.val) % 512 = c.val; omega

variable (hT : Binary T)
include hT

/-- The indicator of "predicted and labelled". -/
theorem v21_eq (b : Fin 16) (r c : Fin 512) :
    val_main_v21 (F := Ideal) P T (ix3 b r c) = nat (posW (P (ix4 b 0 r c)) (P (ix4 b 1 r c)) &&& T (ix3 b r c)).toNat := by
  rw [val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_call0_v0_apply, val_main_call0_v1_apply, val_main_call1_v0_apply, val_main_call1_v1_apply, score0, score1]
  refine Eq.trans ?_ (indI _ _ _ (hT _))
  rw [← predicted (P (ix4 b 0 r c)) (P (ix4 b 1 r c)), ← labelled (T (ix3 b r c)) (hT _)]
  rfl

/-- The indicator of "predicted". -/
theorem v30_eq (b : Fin 16) (r c : Fin 512) :
    val_main_v30 (F := Ideal) P T (ix3 b r c) = nat (posW (P (ix4 b 0 r c)) (P (ix4 b 1 r c))).toNat := by
  rw [val_main_v30_apply, val_main_v29_apply, val_main_v28_apply, val_main_v27_apply, val_main_v26_apply, val_main_v25_apply,
    val_main_v24_apply, val_main_v23_apply,
    val_main_v9_apply, val_main_v8_apply, val_main_v7_apply, val_main_v6_apply, val_main_v5_apply, val_main_v4_apply,
    val_main_call0_v0_apply, val_main_call0_v1_apply, val_main_call2_v0_apply, val_main_call2_v1_apply, score0, score1]
  refine Eq.trans ?_ (indP _ _ _ (hT (ix3 b r c)))
  rw [← predicted (P (ix4 b 0 r c)) (P (ix4 b 1 r c))]
  rfl

/-- The indicator of "labelled". -/
theorem v36_eq (b : Fin 16) (r c : Fin 512) : val_main_v36 (F := Ideal) T (ix3 b r c) = nat (T (ix3 b r c)).toNat := by
  rw [val_main_v36_apply, val_main_v35_apply, val_main_v34_apply, val_main_v33_apply, val_main_v32_apply, val_main_v10_apply,
    val_main_v9_apply, val_main_v8_apply, val_main_call3_v0_apply, val_main_call3_v1_apply]
  refine Eq.trans ?_ (indL _ (hT _))
  rw [← labelled (T (ix3 b r c)) (hT _)]
  rfl

/-- The three counts of an image. -/
theorem v22_eq (j : Images.Idx) : val_main_v22 (F := Ideal) P T j = nat (nI P T (j 0)) :=
  hostSum _ _ (fun _ => rfl) _ _ (fun b r c => (posW (P (ix4 b 0 r c)) (P (ix4 b 1 r c)) &&& T (ix3 b r c)).toNat) (v21_eq P T hT) j
theorem v31_eq (j : Images.Idx) : val_main_v31 (F := Ideal) P T j = nat (nP P (j 0)) :=
  hostSum _ _ (fun _ => rfl) _ _ (fun b r c => (posW (P (ix4 b 0 r c)) (P (ix4 b 1 r c))).toNat) (v30_eq P T hT) j
theorem v37_eq (j : Images.Idx) : val_main_v37 (F := Ideal) T j = nat (nL T (j 0)) :=
  hostSum _ _ (fun _ => rfl) _ _ (fun b r c => (T (ix3 b r c)).toNat) (v36_eq T hT) j

/-- The result, where the union is not empty. -/
theorem value (j : Images.Idx) (hj : nP P (j 0) + nL T (j 0) - nI P T (j 0) ≠ 0) :
    val_main_v41 (F := Ideal) P T j = iou (nI P T (j 0)) (nP P (j 0)) (nL T (j 0)) := by
  have e : val_main_v40 (F := Ideal) P T j = iou (nI P T (j 0)) (nP P (j 0)) (nL T (j 0)) := by
    rw [val_main_v40_apply, val_main_v39_apply, val_main_v38_apply, v22_eq P T hT, v31_eq P T hT, v37_eq T hT]
    exact div_eq (nI_le_nP P T _) hj
  obtain ⟨r, hr⟩ := iou_real (nI_le_nP P T (j 0)) (l := nL T (j 0))
  rw [val_main_v41_apply, val_main_call4_call2_v0_apply, val_main_call4_v6_apply, val_main_call4_v5_apply, val_main_call4_v4_apply,
    val_main_call4_call1_v0_apply, val_main_call4_v3_apply, val_main_call4_v2_apply, val_main_call4_v1_apply,
    val_main_call4_call0_v0_apply, val_main_call4_v0_apply]
  exact (clean (val_main_v40 (F := Ideal) P T j) r (e.trans hr) _ _ _).trans e

end Cert.ReferenceIdeal.Val

end
-- ==== Proof.ScStage.lean ====
/-
  The stages of the SparseCore call's task: a chunk's three copies started, waited for, and its 128 groups of pixels counted.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.ScKernelIdeal
public import proofs.«01_k».proof.Proof.Gen.ScKernelIdeal.Skeleton

@[expose] public section

noncomputable section

namespace Cert.ScKernelIdeal.Sc

open Cert.ScKernelIdeal Cert.ScKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra -/

abbrev UH : Type := URounds (GSem nD τ sig) ℕ
abbrev UB : Type := URounds (GSem nD τ sig) ℕ
abbrev UU : Type := UH × (UB × Counters)

/-- The model of resources of the call's certificate. -/
abbrev MF (F : FTy → Type) := MT nD τ sig (HIx 1) (Elt F) ℕ UU ℕ

abbrev 𝒱₀ : Variants := Variants.none

/-! ## The windows of a task -/

theorem slot_inb (s : Fin 2) : ∀ a, (![s.val, 0, 0] : Fin 3 → ℕ) a + S1x16x512.size a ≤ S2x16x512.size a := by
  revert s; decide

/-- Slot `s` of a scratch of two chunks. -/
abbrev slotOf {e : EltTy} (M : Memref sig .scVector .vmem S2x16x512 e) (s : Fin 2) : Memref sig .scVector .vmem S16x512 e :=
  (M.slice (Rect.unit (s := S2x16x512) ![s.val, 0, 0] S1x16x512.size (slot_inb s)) (fun _ => rfl)).squeeze S16x512 squeezes_S1x16x512_S16x512

abbrev aV : Memref sig .scVector .hbm S16x2x512x512 .f32 := Memref.whole main_arg0_scv
abbrev tV : Memref sig .scVector .hbm S16x512x512 .i32 := Memref.whole main_arg1_scv
abbrev oV : Memref sig .scVector .hbm S16 .f32 := Memref.whole main_v0_scv
abbrev bufA : Memref sig .scVector .vmem S2x16x512 .f32 := Memref.whole cc0_scratch0
abbrev bufB : Memref sig .scVector .vmem S2x16x512 .f32 := Memref.whole cc0_scratch1
abbrev bufT : Memref sig .scVector .vmem S2x16x512 .i32 := Memref.whole cc0_scratch2

/-- Chunk `r` of the task's rows: channel 0, channel 1, labels. -/
abbrev srcA (i : grid0.Coords) (r : Fin 8) : Memref sig .scVector .hbm S16x512 .f32 :=
  (aV.slice (Rect.unit (s := S16x2x512x512) (k0_off1 i (BitVec.ofNat 32 (16 * r.val))) S1x1x16x512.size (k0_off1_inb i r)) (fun _ => rfl)).squeeze S16x512 squeezes_S1x1x16x512_S16x512
abbrev srcB (i : grid0.Coords) (r : Fin 8) : Memref sig .scVector .hbm S16x512 .f32 :=
  (aV.slice (Rect.unit (s := S16x2x512x512) (k0_off2 i (BitVec.ofNat 32 (16 * r.val))) S1x1x16x512.size (k0_off2_inb i r)) (fun _ => rfl)).squeeze S16x512 squeezes_S1x1x16x512_S16x512
abbrev srcT (i : grid0.Coords) (r : Fin 8) : Memref sig .scVector .hbm S16x512 .i32 :=
  (tV.slice (Rect.unit (s := S16x512x512) (k0_off3 i (BitVec.ofNat 32 (16 * r.val))) S1x16x512.size (k0_off3_inb i r)) (fun _ => rfl)).squeeze S16x512 squeezes_S1x16x512_S16x512

abbrev cV (i : grid0.Coords) : Fin τ.nSC := (i 0).castLE hcore0
abbrev jV (i : grid0.Coords) : Fin τ.nSub := (i 1).castLE hsub0

/-! ## The stages' programs -/

section Programs
variable [FloatOps F]

/-- A chunk's three copies started on `d` into slot `s`. -/
def start (i : grid0.Coords) (d : DmaSem sig) (s : Fin 2) (r : Fin 8) :
    Prog (TpuEff nD τ sig (Elt F) Λ₀ (.scVector ((i 0).castLE hcore0) ((i 1).castLE hsub0))) PUnit := do
  Prog.lift (.enqueueDma (srcA i r) (.here (slotOf bufA s)) (.dma d) ((View.wordExact_bits rfl).reshape _ _) ((View.wordExact_bits rfl).reshape _ _) ⟨Or.inl rfl, trivial⟩)
  Prog.lift (.enqueueDma (srcB i r) (.here (slotOf bufB s)) (.dma d) ((View.wordExact_bits rfl).reshape _ _) ((View.wordExact_bits rfl).reshape _ _) ⟨Or.inl rfl, trivial⟩)
  Prog.lift (.enqueueDma (srcT i r) (.here (slotOf bufT s)) (.dma d) ((View.wordExact_bits rfl).reshape _ _) ((View.wordExact_bits rfl).reshape _ _) ⟨Or.inl rfl, trivial⟩)

/-- The three waited for. -/
def await (i : grid0.Coords) (d : DmaSem sig) (s : Fin 2) (r : Fin 8) :
    Prog (TpuEff nD τ sig (Elt F) Λ₀ (.scVector ((i 0).castLE hcore0) ((i 1).castLE hsub0))) PUnit := do
  Prog.lift (.waitDma2 d (srcA i r) (slotOf bufA s) ((View.wordExact_bits rfl).reshape _ _) ((View.wordExact_bits rfl).reshape _ _))
  Prog.lift (.waitDma2 d (srcB i r) (slotOf bufB s) ((View.wordExact_bits rfl).reshape _ _) ((View.wordExact_bits rfl).reshape _ _))
  Prog.lift (.waitDma2 d (srcT i r) (slotOf bufT s) ((View.wordExact_bits rfl).reshape _ _) ((View.wordExact_bits rfl).reshape _ _))

end Programs

/-! ## Their runs -/

section Runs

variable (d : Dev nD) (i : grid0.Coords)

/-- The copies' source windows at a share of the arrays, and a slot's three windows. -/
abbrev srcs (q : Fin 3 → PosShare TreeShare) (fa : Buf (Elt F) (aV.view.loc (V d (cV i) (jV i)))) (ft : Buf (Elt F) (tV.view.loc (V d (cV i) (jV i)))) (r : Fin 8) :
    Fin 3 → sProp (MF F)
  | 0 => (srcA i r).view.loc (V d (cV i) (jV i)) ↦[(srcA i r).view.set]{q 0} fa
  | 1 => (srcB i r).view.loc (V d (cV i) (jV i)) ↦[(srcB i r).view.set]{q 1} fa
  | 2 => (srcT i r).view.loc (V d (cV i) (jV i)) ↦[(srcT i r).view.set]{q 2} ft

abbrev ptA (s : Fin 2) (f : Buf (Elt F) (bufA.view.loc (V d (cV i) (jV i)))) : sProp (MF F) :=
  (slotOf bufA s).view.loc (V d (cV i) (jV i)) ↦[(slotOf bufA s).view.set]{fullShare} f
abbrev ptB (s : Fin 2) (f : Buf (Elt F) (bufB.view.loc (V d (cV i) (jV i)))) : sProp (MF F) :=
  (slotOf bufB s).view.loc (V d (cV i) (jV i)) ↦[(slotOf bufB s).view.set]{fullShare} f
abbrev ptT (s : Fin 2) (f : Buf (Elt F) (bufT.view.loc (V d (cV i) (jV i)))) : sProp (MF F) :=
  (slotOf bufT s).view.loc (V d (cV i) (jV i)) ↦[(slotOf bufT s).view.set]{fullShare} f

/-- A slot filled from a chunk. -/
abbrev filledA (s : Fin 2) (r : Fin 8) (fa : Buf (Elt F) (aV.view.loc (V d (cV i) (jV i)))) (f : Buf (Elt F) (bufA.view.loc (V d (cV i) (jV i)))) :
    Buf (Elt F) (bufA.view.loc (V d (cV i) (jV i))) :=
  (slotOf bufA s).view.writes (Elt F) f [⟨Rect.whole _, ReadAs.same.apply ((srcA i r).view.read (Elt F) fa)⟩]
abbrev filledB (s : Fin 2) (r : Fin 8) (fa : Buf (Elt F) (aV.view.loc (V d (cV i) (jV i)))) (f : Buf (Elt F) (bufB.view.loc (V d (cV i) (jV i)))) :
    Buf (Elt F) (bufB.view.loc (V d (cV i) (jV i))) :=
  (slotOf bufB s).view.writes (Elt F) f [⟨Rect.whole _, ReadAs.same.apply ((srcB i r).view.read (Elt F) fa)⟩]
abbrev filledT (s : Fin 2) (r : Fin 8) (ft : Buf (Elt F) (tV.view.loc (V d (cV i) (jV i)))) (f : Buf (Elt F) (bufT.view.loc (V d (cV i) (jV i)))) :
    Buf (Elt F) (bufT.view.loc (V d (cV i) (jV i))) :=
  (slotOf bufT s).view.writes (Elt F) f [⟨Rect.whole _, ReadAs.same.apply ((srcT i r).view.read (Elt F) ft)⟩]

/-- What the three copies of chunk `r` into slot `s` deliver. -/
def lands (q : Fin 3 → PosShare TreeShare) (fa : Buf (Elt F) (aV.view.loc (V d (cV i) (jV i)))) (ft : Buf (Elt F) (tV.view.loc (V d (cV i) (jV i)))) (s : Fin 2) (r : Fin 8)
    (f0 : Buf (Elt F) (bufA.view.loc (V d (cV i) (jV i)))) (f1 : Buf (Elt F) (bufB.view.loc (V d (cV i) (jV i)))) (f2 : Buf (Elt F) (bufT.view.loc (V d (cV i) (jV i)))) :
    Fin 3 → sProp (MF F)
  | 0 => iprop(ptA d i s (filledA d i s r fa f0) ∗ srcs d i q fa ft r 0)
  | 1 => iprop(ptB d i s (filledB d i s r fa f1) ∗ srcs d i q fa ft r 1)
  | 2 => iprop(ptT d i s (filledT d i s r ft f2) ∗ srcs d i q fa ft r 2)

instance lands_storable (q : Fin 3 → PosShare TreeShare) (fa : Buf (Elt F) (aV.view.loc (V d (cV i) (jV i)))) (ft : Buf (Elt F) (tV.view.loc (V d (cV i) (jV i)))) (s : Fin 2) (r : Fin 8)
    (f0 : Buf (Elt F) (bufA.view.loc (V d (cV i) (jV i)))) (f1 : Buf (Elt F) (bufB.view.loc (V d (cV i) (jV i)))) (f2 : Buf (Elt F) (bufT.view.loc (V d (cV i) (jV i)))) (t : Fin 3) :
    Storable (upEmb : UEmb _ (MF F)) (lands d i q fa ft s r f0 f1 f2 t) := by
  match t with
  | 0 => unfold lands; dsimp only; infer_instance
  | 1 => unfold lands; dsimp only; infer_instance
  | 2 => unfold lands; dsimp only; infer_instance

/-- One copy's credit. -/
abbrev amt (dm : DmaSem sig) : ℕ := (slotOf bufA 0).view.amount (SemLoc.dma (sig := sig) dm)

abbrev Bt (dm : DmaSem sig) (D : Fin 3 → sProp (MF F)) (k u : ℕ) : sProp (MF F) :=
  Transfers.Batch (countersEmb (U := UU)) (V d (cV i) (jV i)) (.dma dm) (default : HIx 1) (amt dm) D k u

variable [FloatOps F]

set_option maxHeartbeats 2000000 in
theorem start_run (dm : DmaSem sig) (q : Fin 3 → PosShare TreeShare) (fa : Buf (Elt F) (aV.view.loc (V d (cV i) (jV i)))) (ft : Buf (Elt F) (tV.view.loc (V d (cV i) (jV i)))) (s : Fin 2) (r : Fin 8)
    (f0 : Buf (Elt F) (bufA.view.loc (V d (cV i) (jV i)))) (f1 : Buf (Elt F) (bufB.view.loc (V d (cV i) (jV i)))) (f2 : Buf (Elt F) (bufT.view.loc (V d (cV i) (jV i)))) (Q : PUnit → sProp (MF F)) :
    iprop(srcs d i q fa ft r 0 ∗ srcs d i q fa ft r 1 ∗ srcs d i q fa ft r 2 ∗ ptA d i s f0 ∗ ptB d i s f1 ∗ ptT d i s f2
        ∗ Bt d i dm (lands d i q fa ft s r f0 f1 f2) 0 0
        ∗ (Bt d i dm (lands d i q fa ft s r f0 f1 f2) 3 0 -∗ Q ⟨⟩))
      ⊢ wp frame (wpE (defs₀ (F := F)) 𝒱₀ (V d (cV i) (jV i)) none) Set.univ (start (F := F) i dm s r) Q := by
  iintro ⟨HA, HB, HT, HDA, HDB, HDT, Hb, Hk⟩
  unfold start
  sl_exec
  sl_step
  iapply Hk; iexact Hb

set_option maxRecDepth 100000 in
set_option maxHeartbeats 2000000 in
theorem await_run (dm : DmaSem sig) (q : Fin 3 → PosShare TreeShare) (fa : Buf (Elt F) (aV.view.loc (V d (cV i) (jV i)))) (ft : Buf (Elt F) (tV.view.loc (V d (cV i) (jV i)))) (s : Fin 2) (r : Fin 8)
    (f0 : Buf (Elt F) (bufA.view.loc (V d (cV i) (jV i)))) (f1 : Buf (Elt F) (bufB.view.loc (V d (cV i) (jV i)))) (f2 : Buf (Elt F) (bufT.view.loc (V d (cV i) (jV i))))
    (O : CellTallies nD τ sig (HIx 1)) (W : Waits sig (HIx 1)) (Q : PUnit → sProp (MF F)) :
    iprop(Bt d i dm (lands d i q fa ft s r f0 f1 f2) 3 0
        ∗ Transfers.MayWaits (V d (cV i) (jV i)) (default : HIx 1) O
        ∗ owes (V d (cV i) (jV i)) O W
        ∗ (iprop(ptA d i s (filledA d i s r fa f0) ∗ ptB d i s (filledB d i s r fa f1) ∗ ptT d i s (filledT d i s r ft f2)
            ∗ semVal (V d (cV i) (jV i), SemLoc.dma dm) 0
            ∗ ∃ W', ⌜∀ p ∈ W', p ∈ W ∨ p.2 = none⌝ ∗ owes (V d (cV i) (jV i)) O W') -∗ Q ⟨⟩))
      ⊢ wp frame (wpE (defs₀ (F := F)) 𝒱₀ (V d (cV i) (jV i)) none) Set.univ (await (F := F) i dm s r) Q := by
  iintro ⟨Hb, #Hmw, HO, Hk⟩
  unfold await
  sl_exec
  sl_step
  iapply Hk
  isplitl [Hb_dst0]; · iexact Hb_dst0
  isplitl [Hb_dst1]; · iexact Hb_dst1
  isplitl [Hb_dst2]; · iexact Hb_dst2
  isplitl [Hb]; · iexact Hb
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Runs

end Cert.ScKernelIdeal.Sc

end
-- ==== Proof.ScCount.lean ====
/-
  The counting of a chunk: 128 trips of four groups of sixteen pixels, and its run.
-/
module

public import proofs.«01_k».proof.Proof.ScStage

@[expose] public section

noncomputable section

namespace Cert.ScKernelIdeal.Sc

open Cert.ScKernelIdeal Cert.ScKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The twelve running counts: agreement, predicted, labelled, four groups each. -/
abbrev Acc : Type :=
  IVec S16 32 × IVec S16 32 × IVec S16 32 × IVec S16 32 × IVec S16 32 × IVec S16 32 × IVec S16 32 × IVec S16 32 × IVec S16 32 × IVec S16 32 × IVec S16 32 × IVec S16 32

/-- The counts after one trip's four groups: `b`, `a` the two channels, `l` the labels. -/
def bump (x : Acc) (b a : Fin 4 → Vec F S1x16 .f32) (l : Fin 4 → Vec F S1x16 .i32) : Acc :=
  match x with
  | (x0, x1, x2, x3, y0, y1, y2, y3, z0, z1, z2, z3) =>
    (k0_pay5 x0 (b 0) (a 0) (l 0), k0_pay5 x1 (b 1) (a 1) (l 1), k0_pay5 x2 (b 2) (a 2) (l 2), k0_pay5 x3 (b 3) (a 3) (l 3),
      k0_pay6 y0 (b 0) (a 0), k0_pay6 y1 (b 1) (a 1), k0_pay6 y2 (b 2) (a 2), k0_pay6 y3 (b 3) (a 3),
      k0_pay7 z0 (l 0), k0_pay7 z1 (l 1), k0_pay7 z2 (l 2), k0_pay7 z3 (l 3))

/-- Group `g` of trip `t`, as a window of a chunk. -/
abbrev grp (t : Fin k0_t1_loop.trips) (g : Fin 4) : Rect S16x512 :=
  Rect.unit (s := S16x512) (k0_off4 t (BitVec.ofNat 32 (16 * g.val))) S1x16.size (k0_off4_inb t g)

/-- A trip on slot `s`. -/
def trip (i : grid0.Coords) (s : Fin 2) (t : Fin k0_t1_loop.trips) (x : Acc) :
    Prog (TpuEff nD τ sig (Elt F) Λ₀ (.scVector ((i 0).castLE hcore0) ((i 1).castLE hsub0))) Acc := do
  let b0 ← Prog.lift (.load (slotOf bufB s) (grp t 0).toLoadRect (View.loadsAt_vmem h_S1x16))
  let a0 ← Prog.lift (.load (slotOf bufA s) (grp t 0).toLoadRect (View.loadsAt_vmem h_S1x16))
  let l0 ← Prog.lift (.load (slotOf bufT s) (grp t 0).toLoadRect (View.loadsAt_vmem h_S1x16))
  let b1 ← Prog.lift (.load (slotOf bufB s) (grp t 1).toLoadRect (View.loadsAt_vmem h_S1x16))
  let a1 ← Prog.lift (.load (slotOf bufA s) (grp t 1).toLoadRect (View.loadsAt_vmem h_S1x16))
  let l1 ← Prog.lift (.load (slotOf bufT s) (grp t 1).toLoadRect (View.loadsAt_vmem h_S1x16))
  let b2 ← Prog.lift (.load (slotOf bufB s) (grp t 2).toLoadRect (View.loadsAt_vmem h_S1x16))
  let a2 ← Prog.lift (.load (slotOf bufA s) (grp t 2).toLoadRect (View.loadsAt_vmem h_S1x16))
  let l2 ← Prog.lift (.load (slotOf bufT s) (grp t 2).toLoadRect (View.loadsAt_vmem h_S1x16))
  let b3 ← Prog.lift (.load (slotOf bufB s) (grp t 3).toLoadRect (View.loadsAt_vmem h_S1x16))
  let a3 ← Prog.lift (.load (slotOf bufA s) (grp t 3).toLoadRect (View.loadsAt_vmem h_S1x16))
  let l3 ← Prog.lift (.load (slotOf bufT s) (grp t 3).toLoadRect (View.loadsAt_vmem h_S1x16))
  pure (bump x ![b0, b1, b2, b3] ![a0, a1, a2, a3] ![l0, l1, l2, l3])

/-- A chunk's counting. -/
def count (i : grid0.Coords) (s : Fin 2) (x : Acc) :
    Prog (TpuEff nD τ sig (Elt F) Λ₀ (.scVector ((i 0).castLE hcore0) ((i 1).castLE hsub0))) Acc :=
  Scf.Loop.for k0_t1_loop k0_t1_ok x (trip i s)

/-- One trip's counts off a chunk's contents. -/
def stepAt (A B : Vec F S16x512 .f32) (L : Vec F S16x512 .i32) (t : Fin k0_t1_loop.trips) (x : Acc) : Acc :=
  bump x (fun g j => B ((grp t g).emb j)) (fun g j => A ((grp t g).emb j)) (fun g j => L ((grp t g).emb j))

/-- The counts after `n` trips. -/
def countsTo (A B : Vec F S16x512 .f32) (L : Vec F S16x512 .i32) (x : Acc) : ℕ → Acc
  | 0 => x
  | n + 1 => if h : n < k0_t1_loop.trips then stepAt A B L ⟨n, h⟩ (countsTo A B L x n) else countsTo A B L x n

section Runs

variable (d : Dev nD) (i : grid0.Coords)

/-- The slot's three windows held, and the counts after `n` trips. -/
def inv (s : Fin 2) (f0 : Buf (Elt F) (bufA.view.loc (V d (cV i) (jV i)))) (f1 : Buf (Elt F) (bufB.view.loc (V d (cV i) (jV i)))) (f2 : Buf (Elt F) (bufT.view.loc (V d (cV i) (jV i))))
    (x : Acc) (n : ℕ) (y : Acc) : sProp (MF F) :=
  iprop(⌜y = countsTo ((slotOf bufA s).view.read (Elt F) f0) ((slotOf bufB s).view.read (Elt F) f1) ((slotOf bufT s).view.read (Elt F) f2) x n⌝
    ∗ ptA d i s f0 ∗ ptB d i s f1 ∗ ptT d i s f2)

set_option maxHeartbeats 4000000 in
theorem count_run (s : Fin 2) (f0 : Buf (Elt F) (bufA.view.loc (V d (cV i) (jV i)))) (f1 : Buf (Elt F) (bufB.view.loc (V d (cV i) (jV i)))) (f2 : Buf (Elt F) (bufT.view.loc (V d (cV i) (jV i))))
    (x : Acc) (Q : Acc → sProp (MF F)) :
    iprop(ptA d i s f0 ∗ ptB d i s f1 ∗ ptT d i s f2
        ∗ (iprop(ptA d i s f0 ∗ ptB d i s f1 ∗ ptT d i s f2) -∗
            Q (countsTo ((slotOf bufA s).view.read (Elt F) f0) ((slotOf bufB s).view.read (Elt F) f1) ((slotOf bufT s).view.read (Elt F) f2) x k0_t1_loop.trips)))
      ⊢ wp frame (wpE (defs₀ (F := F)) 𝒱₀ (V d (cV i) (jV i)) none) Set.univ (count (F := F) i s x) Q := by
  iintro ⟨HA, HB, HT, Hk⟩
  unfold count
  sl_for (inv d i s f0 f1 f2 x) $$ [HA HB HT Hk]
  case region =>
    intro k y; unfold inv
    iintro ⟨%hy, HA, HB, HT⟩
    unfold count_run.sl.prog.body_1 trip
    sl_exec
    sl_step
    isplitr
    · ipureintro
      rw [countsTo, dif_pos k.isLt, ← hy]
      obtain ⟨x0, x1, x2, x3, y0, y1, y2, y3, z0, z1, z2, z3⟩ := y
      rfl
    isplitl [HA]; · iexact HA
    isplitl [HB]; · iexact HB
    iexact HT
  unfold inv
  isplitl [HA HB HT]
  · isplitr; · ipureintro; rfl
    isplitl [HA]; · iexact HA
    isplitl [HB]; · iexact HB
    iexact HT
  iintro %a ⟨%ha, HA, HB, HT⟩
  rw [ha]
  iapply Hk
  isplitl [HA]; · iexact HA
  isplitl [HB]; · iexact HB
  iexact HT

end Runs

end Cert.ScKernelIdeal.Sc

end
-- ==== Proof.ScTask.lean ====
/-
  The task's program as its stages: eight chunks counted, the report to the shared scratch, the barrier, and the first
  task's totals.
-/
module

public import proofs.«01_k».proof.Proof.ScCount

@[expose] public section

noncomputable section

namespace Cert.ScKernelIdeal.Sc

open Cert.ScKernelIdeal Cert.ScKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev bufG : Memref sig .scVector .vmem S768 .f32 := Memref.whole cc0_scratch3
abbrev bufR : Memref sig .scVector .vmem S48 .f32 := Memref.whole cc0_scratch4
abbrev bufO : Memref sig .scVector .vmem S16 .f32 := Memref.whole cc0_scratch5
abbrev shV : Memref sig .scVector .shared S768 .f32 := Memref.whole cc0_scratch6

/-- The task's piece of the shared scratch. -/
abbrev shW (i : grid0.Coords) : Memref sig .scVector .shared S48 .f32 :=
  shV.slice (Rect.unit (s := S768) (k0_off12 i) S48.size (k0_off12_inb i)) (fun _ => rfl)

/-- The eight elements of the result that core `i 0` writes, and where they are staged. -/
abbrev oW (i : grid0.Coords) (h : k0_cond1 i = 1#1) : Memref sig .scVector .hbm S8 .f32 :=
  oV.slice (Rect.unit (s := S16) (k0_off13 i) S8.size (k0_off13_inb i h)) (fun _ => rfl)
abbrev bufO8 : Memref sig .scVector .vmem S8 .f32 :=
  bufO.slice (Rect.unit (s := S16) ![0] S8.size inb_S16_S8_0) (fun _ => rfl)

/-- The counts at zero. -/
abbrev zeroAcc : Acc :=
  (k0_pay117, k0_pay117, k0_pay117, k0_pay117, k0_pay117, k0_pay117, k0_pay117, k0_pay117, k0_pay117, k0_pay117, k0_pay117, k0_pay117)

/-- Eight chunks, two in flight, counted in turn. -/
def work (i : grid0.Coords) :
    Prog (TpuEff nD τ sig (Elt F) Λ₀ (.scVector ((i 0).castLE hcore0) ((i 1).castLE hsub0))) Acc := do
  start i cc0_scratch7.sem 0 0
  start i cc0_scratch8.sem 1 1
  await i cc0_scratch7.sem 0 0
  let x ← count i 0 zeroAcc
  start i cc0_scratch7.sem 0 2
  await i cc0_scratch8.sem 1 1
  let x ← count i 1 x
  start i cc0_scratch8.sem 1 3
  await i cc0_scratch7.sem 0 2
  let x ← count i 0 x
  start i cc0_scratch7.sem 0 4
  await i cc0_scratch8.sem 1 3
  let x ← count i 1 x
  start i cc0_scratch8.sem 1 5
  await i cc0_scratch7.sem 0 4
  let x ← count i 0 x
  start i cc0_scratch7.sem 0 6
  await i cc0_scratch8.sem 1 5
  let x ← count i 1 x
  start i cc0_scratch8.sem 1 7
  await i cc0_scratch7.sem 0 6
  let x ← count i 0 x
  await i cc0_scratch8.sem 1 7
  count i 1 x

/-- The three rows a task reports: its sums of the three kinds of counts, each in its image's lane. -/
def rowI (i : grid0.Coords) (x : Acc) : FVec F S16 .f32 :=
  k0_pay187 (BitVec.ofNat 32 (i 1).val) (iota .scVector S16 32 [0] iota_S16_d0_w32_scVector) (k0_pay184 (F := F) x.1 x.2.1 x.2.2.1 x.2.2.2.1)
def rowP (i : grid0.Coords) (x : Acc) : FVec F S16 .f32 :=
  k0_pay188 (F := F) (BitVec.ofNat 32 (i 1).val) (k0_pay182 x.2.2.2.2.1 x.2.2.2.2.2.1 x.2.2.2.2.2.2.1 x.2.2.2.2.2.2.2.1)
    (iota .scVector S16 32 [0] iota_S16_d0_w32_scVector) k0_pay185
def rowL (i : grid0.Coords) (x : Acc) : FVec F S16 .f32 :=
  k0_pay1 (k0_pay189 (F := F) (BitVec.ofNat 32 (i 1).val)
    (k0_pay183 x.2.2.2.2.2.2.2.2.1 x.2.2.2.2.2.2.2.2.2.1 x.2.2.2.2.2.2.2.2.2.2.1 x.2.2.2.2.2.2.2.2.2.2.2)
    (iota .scVector S16 32 [0] iota_S16_d0_w32_scVector))

/-- The rows staged, and copied to the task's piece of the shared scratch. -/
def report (i : grid0.Coords) (x : Acc) :
    Prog (TpuEff nD τ sig (Elt F) Λ₀ (.scVector ((i 0).castLE hcore0) ((i 1).castLE hsub0))) PUnit := do
  let _ ← Prog.lift (.load bufR (Rect.unit (s := S48) ![0] S16.size inb_S48_S16_0).toLoadRect (View.loadsAt_vmem h_S16))
  Prog.lift (.store bufR (Rect.unit (s := S48) ![0] S16.size inb_S48_S16_0) (rowI i x) Finset.univ (View.stores_vmem_bits_univ h_S16 rfl) (.inl rfl))
  let _ ← Prog.lift (.load bufR (Rect.unit (s := S48) ![16] S16.size inb_S48_S16_16).toLoadRect (View.loadsAt_vmem h_S16))
  Prog.lift (.store bufR (Rect.unit (s := S48) ![16] S16.size inb_S48_S16_16) (rowP i x) Finset.univ (View.stores_vmem_bits_univ h_S16 rfl) (.inl rfl))
  let _ ← Prog.lift (.load bufR (Rect.unit (s := S48) ![32] S16.size inb_S48_S16_32).toLoadRect (View.loadsAt_vmem h_S16))
  Prog.lift (.store bufR (Rect.unit (s := S48) ![32] S16.size inb_S48_S16_32) (rowL i x) Finset.univ (View.stores_vmem_bits_univ h_S16 rfl) (.inl rfl))
  Prog.lift (.enqueueDma bufR (.here (shW i)) (.dma cc0_scoped0.sem) (Memref.isWhole_whole cc0_scratch4).wordExact (View.wordExact_bits rfl) ⟨Or.inl rfl, trivial⟩)
  Prog.lift (.waitDma2 cc0_scoped0.sem bufR (shW i) (Memref.isWhole_whole cc0_scratch4).wordExact (View.wordExact_bits rfl))

/-- The first task's end: the shared scratch read, the sixteen reports added, the ratios written. -/
def total (i : grid0.Coords) (h : k0_cond1 i = 1#1) :
    Prog (TpuEff nD τ sig (Elt F) Λ₀ (.scVector ((i 0).castLE hcore0) ((i 1).castLE hsub0))) PUnit := do
  let ⟨v544, v547, v550⟩ ← k0_part17_skel i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2
  let ⟨v589, v592, v595⟩ ← k0_part18_skel i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v544 v547 v550
  let ⟨v634, v637, v640⟩ ← k0_part19_skel i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v589 v592 v595
  let v641 ← Prog.lift (.load bufG (Rect.unit (s := S768) ![704] S16.size inb_S768_S16_704).toLoadRect (View.loadsAt_vmem h_S16))
  let v644 ← Prog.lift (.load bufG (Rect.unit (s := S768) ![720] S16.size inb_S768_S16_720).toLoadRect (View.loadsAt_vmem h_S16))
  let v647 ← Prog.lift (.load bufG (Rect.unit (s := S768) ![736] S16.size inb_S768_S16_736).toLoadRect (View.loadsAt_vmem h_S16))
  let v650 ← Prog.lift (.load bufG (Rect.unit (s := S768) ![752] S16.size inb_S768_S16_752).toLoadRect (View.loadsAt_vmem h_S16))
  let _ ← Prog.lift (.load bufO (Rect.unit (s := S16) ![0] S16.size inb_S16_S16_0).toLoadRect (View.loadsAt_vmem h_S16))
  Prog.lift (.store bufO (Rect.unit (s := S16) ![0] S16.size inb_S16_S16_0) (k0_pay2 v634 v637 v640 v641 v644 v647 v650) Finset.univ (View.stores_vmem_bits_univ h_S16 rfl) (.inl rfl))
  Prog.lift (.enqueueDma bufO8 (.here (oW i h)) (.dma cc0_scoped2.sem) (View.wordExact_bits rfl) (View.wordExact_bits rfl) ⟨Or.inl rfl, trivial⟩)
  Prog.lift (.waitDma2 cc0_scoped2.sem bufO8 (oW i h) (View.wordExact_bits rfl) (View.wordExact_bits rfl))

/-- The task. -/
def task (i : grid0.Coords) :
    Prog (TpuEff nD τ sig (Elt F) Λ₀ (.scVector ((i 0).castLE hcore0) ((i 1).castLE hsub0))) PUnit := do
  let x ← work i
  report i x
  SparseCore.subcoreBarrier sc_bar0 (grid0.bound 1) hsub0
  if h : k0_cond1 i = 1#1 then total i h else pure ⟨⟩

set_option maxRecDepth 65536 in
theorem body1 (i : grid0.Coords) (v29 : BitVec 32) (v30 : IVec S16 32) :
    k0_t1_body (F := F) i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v29 v30 = trip i 0 := by
  funext t x
  obtain ⟨x0, x1, x2, x3, y0, y1, y2, y3, z0, z1, z2, z3⟩ := x
  rfl

set_option maxRecDepth 65536 in
theorem body2 (i : grid0.Coords) (v29 : BitVec 32) (v106_0 : IVec S16 32) (v106_1 : IVec S16 32) (v106_2 : IVec S16 32) (v106_3 : IVec S16 32) (v106_4 : IVec S16 32) (v106_5 : IVec S16 32) (v106_6 : IVec S16 32) (v106_7 : IVec S16 32) (v106_8 : IVec S16 32) (v106_9 : IVec S16 32) (v106_10 : IVec S16 32) (v106_11 : IVec S16 32) :
    k0_t2_body (F := F) i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v29 v106_0 v106_1 v106_2 v106_3 v106_4 v106_5 v106_6 v106_7 v106_8 v106_9 v106_10 v106_11 = trip i 1 := by
  funext t x
  obtain ⟨x0, x1, x2, x3, y0, y1, y2, y3, z0, z1, z2, z3⟩ := x
  rfl

set_option maxRecDepth 65536 in
theorem body3 (i : grid0.Coords) (v29 : BitVec 32) (v157_0 : IVec S16 32) (v157_1 : IVec S16 32) (v157_2 : IVec S16 32) (v157_3 : IVec S16 32) (v157_4 : IVec S16 32) (v157_5 : IVec S16 32) (v157_6 : IVec S16 32) (v157_7 : IVec S16 32) (v157_8 : IVec S16 32) (v157_9 : IVec S16 32) (v157_10 : IVec S16 32) (v157_11 : IVec S16 32) :
    k0_t3_body (F := F) i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v29 v157_0 v157_1 v157_2 v157_3 v157_4 v157_5 v157_6 v157_7 v157_8 v157_9 v157_10 v157_11 = trip i 0 := by
  funext t x
  obtain ⟨x0, x1, x2, x3, y0, y1, y2, y3, z0, z1, z2, z3⟩ := x
  rfl

set_option maxRecDepth 65536 in
theorem body4 (i : grid0.Coords) (v29 : BitVec 32) (v208_0 : IVec S16 32) (v208_1 : IVec S16 32) (v208_2 : IVec S16 32) (v208_3 : IVec S16 32) (v208_4 : IVec S16 32) (v208_5 : IVec S16 32) (v208_6 : IVec S16 32) (v208_7 : IVec S16 32) (v208_8 : IVec S16 32) (v208_9 : IVec S16 32) (v208_10 : IVec S16 32) (v208_11 : IVec S16 32) (c0_i32_244 : BitVec 32) :
    k0_t4_body (F := F) i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v29 v208_0 v208_1 v208_2 v208_3 v208_4 v208_5 v208_6 v208_7 v208_8 v208_9 v208_10 v208_11 c0_i32_244 = trip i 1 := by
  funext t x
  obtain ⟨x0, x1, x2, x3, y0, y1, y2, y3, z0, z1, z2, z3⟩ := x
  rfl

set_option maxRecDepth 65536 in
theorem body5 (i : grid0.Coords) (v29 : BitVec 32) (v259_0 : IVec S16 32) (v259_1 : IVec S16 32) (v259_2 : IVec S16 32) (v259_3 : IVec S16 32) (v259_4 : IVec S16 32) (v259_5 : IVec S16 32) (v259_6 : IVec S16 32) (v259_7 : IVec S16 32) (v259_8 : IVec S16 32) (v259_9 : IVec S16 32) (v259_10 : IVec S16 32) (v259_11 : IVec S16 32) :
    k0_t5_body (F := F) i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v29 v259_0 v259_1 v259_2 v259_3 v259_4 v259_5 v259_6 v259_7 v259_8 v259_9 v259_10 v259_11 = trip i 0 := by
  funext t x
  obtain ⟨x0, x1, x2, x3, y0, y1, y2, y3, z0, z1, z2, z3⟩ := x
  rfl

set_option maxRecDepth 65536 in
theorem body6 (i : grid0.Coords) (v29 : BitVec 32) (v310_0 : IVec S16 32) (v310_1 : IVec S16 32) (v310_2 : IVec S16 32) (v310_3 : IVec S16 32) (v310_4 : IVec S16 32) (v310_5 : IVec S16 32) (v310_6 : IVec S16 32) (v310_7 : IVec S16 32) (v310_8 : IVec S16 32) (v310_9 : IVec S16 32) (v310_10 : IVec S16 32) (v310_11 : IVec S16 32) :
    k0_t6_body (F := F) i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v29 v310_0 v310_1 v310_2 v310_3 v310_4 v310_5 v310_6 v310_7 v310_8 v310_9 v310_10 v310_11 = trip i 1 := by
  funext t x
  obtain ⟨x0, x1, x2, x3, y0, y1, y2, y3, z0, z1, z2, z3⟩ := x
  rfl

set_option maxRecDepth 65536 in
theorem body7 (i : grid0.Coords) (v361_0 : IVec S16 32) (v361_1 : IVec S16 32) (v361_2 : IVec S16 32) (v361_3 : IVec S16 32) (v361_4 : IVec S16 32) (v361_5 : IVec S16 32) (v361_6 : IVec S16 32) (v361_7 : IVec S16 32) (v361_8 : IVec S16 32) (v361_9 : IVec S16 32) (v361_10 : IVec S16 32) (v361_11 : IVec S16 32) :
    k0_t7_body (F := F) i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v361_0 v361_1 v361_2 v361_3 v361_4 v361_5 v361_6 v361_7 v361_8 v361_9 v361_10 v361_11 = trip i 0 := by
  funext t x
  obtain ⟨x0, x1, x2, x3, y0, y1, y2, y3, z0, z1, z2, z3⟩ := x
  rfl

set_option maxRecDepth 65536 in
theorem body8 (i : grid0.Coords) (v412_0 : IVec S16 32) (v412_1 : IVec S16 32) (v412_2 : IVec S16 32) (v412_3 : IVec S16 32) (v412_4 : IVec S16 32) (v412_5 : IVec S16 32) (v412_6 : IVec S16 32) (v412_7 : IVec S16 32) (v412_8 : IVec S16 32) (v412_9 : IVec S16 32) (v412_10 : IVec S16 32) (v412_11 : IVec S16 32) :
    k0_t8_body (F := F) i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 v412_0 v412_1 v412_2 v412_3 v412_4 v412_5 v412_6 v412_7 v412_8 v412_9 v412_10 v412_11 = trip i 1 := by
  funext t x
  obtain ⟨x0, x1, x2, x3, y0, y1, y2, y3, z0, z1, z2, z3⟩ := x
  rfl

set_option maxHeartbeats 4000000 in
set_option maxRecDepth 65536 in
theorem task_eq (i : grid0.Coords) :
    cc0__sc_body (F := F) i aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2 = task i := by
  rw [cc0__sc_body_eq_skeleton]
  unfold cc0__sc_body_skel task work
  simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  simp only [k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, body1, body2, body3, body4, body5, body6, body7, body8]
  unfold start await count report
  simp only [Prog.bind_assoc, Prog.lift, Prog.bind_op, Prog.bind_ret, Prog.pure_eq_ret]
  rfl

end Cert.ScKernelIdeal.Sc

end
-- ==== Proof.ScWork.lean ====
/-
  The run of a task's eight chunks: the counts it ends with, as a function of the two arrays.
-/
module

public import proofs.«01_k».proof.Proof.ScTask

@[expose] public section

noncomputable section

namespace Cert.ScKernelIdeal.Sc

open Cert.ScKernelIdeal Cert.ScKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section

variable (d : Dev nD) (i : grid0.Coords)
variable (fa : Buf (Elt F) (aV.view.loc (V d (cV i) (jV i)))) (ft : Buf (Elt F) (tV.view.loc (V d (cV i) (jV i))))

/-- The counts after chunk `r`. -/
def chunkCounts (r : Fin 8) (x : Acc) : Acc :=
  countsTo ((srcA i r).view.read (Elt F) fa) ((srcB i r).view.read (Elt F) fa) ((srcT i r).view.read (Elt F) ft) x k0_t1_loop.trips

/-- The counts after all eight. -/
def tally : Acc :=
  chunkCounts d i fa ft 7 (chunkCounts d i fa ft 6 (chunkCounts d i fa ft 5 (chunkCounts d i fa ft 4
    (chunkCounts d i fa ft 3 (chunkCounts d i fa ft 2 (chunkCounts d i fa ft 1 (chunkCounts d i fa ft 0 zeroAcc)))))))

/-- A slot at rest; -/
def rest (dm : DmaSem sig) (s : Fin 2) : sProp (MF F) :=
  iprop((∃ f, ptA d i s f) ∗ (∃ f, ptB d i s f) ∗ (∃ f, ptT d i s f) ∗ semVal (V d (cV i) (jV i), SemLoc.dma dm) 0)

/-- a slot with chunk `r` in flight into it; -/
def fly (q : Fin 8 → Fin 3 → PosShare TreeShare) (dm : DmaSem sig) (s : Fin 2) (r : Fin 8) : sProp (MF F) :=
  iprop(∃ f0 f1 f2, Bt d i dm (lands d i (q r) fa ft s r f0 f1 f2) 3 0)

/-- a chunk's sources; -/
def src (q : Fin 8 → Fin 3 → PosShare TreeShare) (r : Fin 8) : sProp (MF F) :=
  iprop(srcs d i (q r) fa ft r 0 ∗ srcs d i (q r) fa ft r 1 ∗ srcs d i (q r) fa ft r 2)

/-- the debts, with waits at index `none` recorded beyond `W`. -/
def owing (O : CellTallies nD τ sig (HIx 1)) (W : Waits sig (HIx 1)) : sProp (MF F) :=
  iprop(∃ W', ⌜∀ p ∈ W', p ∈ W ∨ p.2 = none⌝ ∗ owes (V d (cV i) (jV i)) O W')

variable (q : Fin 8 → Fin 3 → PosShare TreeShare)

theorem start_fly (dm : DmaSem sig) (s : Fin 2) (r : Fin 8) (Q : PUnit → sProp (MF F)) :
    iprop(rest d i dm s ∗ src d i fa ft q r ∗ (fly d i fa ft q dm s r -∗ Q ⟨⟩))
      ⊢ wp frame (wpE (defs₀ (F := F)) 𝒱₀ (V d (cV i) (jV i)) none) Set.univ (start (F := F) i dm s r) Q := by
  unfold rest src
  iintro ⟨⟨⟨%f0, HA⟩, ⟨%f1, HB⟩, ⟨%f2, HT⟩, Hsem⟩, ⟨S0, S1, S2⟩, Hk⟩
  imod (Transfers.batch_alloc' (Lvl := ℕ) (countersEmb (U := UU)) (V d (cV i) (jV i)) (default : HIx 1) (amt dm) (lands d i (q r) fa ft s r f0 f1 f2)
    (sm := .dma dm) (E := Set.univ)) $$ Hsem with Hb
  iapply (start_run d i dm (q r) fa ft s r f0 f1 f2 Q)
  isplitl [S0]; · iexact S0
  isplitl [S1]; · iexact S1
  isplitl [S2]; · iexact S2
  isplitl [HA]; · iexact HA
  isplitl [HB]; · iexact HB
  isplitl [HT]; · iexact HT
  isplitl [Hb]; · iexact Hb
  iintro Hb
  iapply Hk
  unfold fly
  iexists f0, f1, f2; iexact Hb

theorem await_count (O : CellTallies nD τ sig (HIx 1)) (W : Waits sig (HIx 1)) (dm : DmaSem sig) (s : Fin 2) (r : Fin 8) (x : Acc) (Q : Acc → sProp (MF F)) :
    iprop(fly d i fa ft q dm s r ∗ Transfers.MayWaits (V d (cV i) (jV i)) (default : HIx 1) O ∗ owing d i O W
        ∗ (iprop(rest d i dm s ∗ owing d i O W) -∗ Q (chunkCounts d i fa ft r x)))
      ⊢ wp frame (wpE (defs₀ (F := F)) 𝒱₀ (V d (cV i) (jV i)) none) Set.univ (await (F := F) i dm s r)
          (fun _ => wp frame (wpE (defs₀ (F := F)) 𝒱₀ (V d (cV i) (jV i)) none) Set.univ (count (F := F) i s x) Q) := by
  unfold fly owing
  iintro ⟨⟨%f0, %f1, %f2, Hb⟩, #Hmw, ⟨%W', %hW', HO⟩, Hk⟩
  iapply (await_run d i dm (q r) fa ft s r f0 f1 f2 O W')
  isplitl [Hb]; · iexact Hb
  isplitr; · iexact Hmw
  isplitl [HO]; · iexact HO
  iintro ⟨HA, HB, HT, Hsem, ⟨%W'', %hW'', HO⟩⟩
  iapply (count_run d i s _ _ _ x Q)
  isplitl [HA]; · iexact HA
  isplitl [HB]; · iexact HB
  isplitl [HT]; · iexact HT
  iintro ⟨HA, HB, HT⟩
  unfold chunkCounts
  rw [View.read_writes_whole, View.read_writes_whole, View.read_writes_whole]
  iapply Hk
  isplitl [HA HB HT Hsem]
  · unfold rest
    isplitl [HA]; · iexists _; iexact HA
    isplitl [HB]; · iexists _; iexact HB
    isplitl [HT]; · iexists _; iexact HT
    iexact Hsem
  · iexists W''
    isplitr
    · ipureintro
      intro p hp
      rcases hW'' p hp with h | h
      · exact hW' p h
      · exact .inr h
    · iexact HO

theorem work_run (O : CellTallies nD τ sig (HIx 1)) (W : Waits sig (HIx 1)) (Q : Acc → sProp (MF F)) :
    iprop(rest d i cc0_scratch7.sem 0 ∗ rest d i cc0_scratch8.sem 1
        ∗ (src d i fa ft q 0 ∗ src d i fa ft q 1 ∗ src d i fa ft q 2 ∗ src d i fa ft q 3 ∗ src d i fa ft q 4 ∗ src d i fa ft q 5 ∗ src d i fa ft q 6 ∗ src d i fa ft q 7)
        ∗ Transfers.MayWaits (V d (cV i) (jV i)) (default : HIx 1) O ∗ owing d i O W
        ∗ (iprop(rest d i cc0_scratch7.sem 0 ∗ rest d i cc0_scratch8.sem 1 ∗ owing d i O W) -∗ Q (tally d i fa ft)))
      ⊢ wp frame (wpE (defs₀ (F := F)) 𝒱₀ (V d (cV i) (jV i)) none) Set.univ (work (F := F) i) Q := by
  iintro ⟨R0, R1, ⟨S0, S1, S2, S3, S4, S5, S6, S7⟩, #Hmw, HO, Hk⟩
  unfold work tally
  simp only [wp_bind]
  iapply (start_fly d i fa ft q cc0_scratch7.sem 0 0)
  isplitl [R0]; · iexact R0
  isplitl [S0]; · iexact S0
  iintro F0
  iapply (start_fly d i fa ft q cc0_scratch8.sem 1 1)
  isplitl [R1]; · iexact R1
  isplitl [S1]; · iexact S1
  iintro F1
  iapply (await_count d i fa ft q O W cc0_scratch7.sem 0 0)
  isplitl [F0]; · iexact F0
  isplitr; · iexact Hmw
  isplitl [HO]; · iexact HO
  iintro ⟨R0, HO⟩
  iapply (start_fly d i fa ft q cc0_scratch7.sem 0 2)
  isplitl [R0]; · iexact R0
  isplitl [S2]; · iexact S2
  iintro F0
  iapply (await_count d i fa ft q O W cc0_scratch8.sem 1 1)
  isplitl [F1]; · iexact F1
  isplitr; · iexact Hmw
  isplitl [HO]; · iexact HO
  iintro ⟨R1, HO⟩
  iapply (start_fly d i fa ft q cc0_scratch8.sem 1 3)
  isplitl [R1]; · iexact R1
  isplitl [S3]; · iexact S3
  iintro F1
  iapply (await_count d i fa ft q O W cc0_scratch7.sem 0 2)
  isplitl [F0]; · iexact F0
  isplitr; · iexact Hmw
  isplitl [HO]; · iexact HO
  iintro ⟨R0, HO⟩
  iapply (start_fly d i fa ft q cc0_scratch7.sem 0 4)
  isplitl [R0]; · iexact R0
  isplitl [S4]; · iexact S4
  iintro F0
  iapply (await_count d i fa ft q O W cc0_scratch8.sem 1 3)
  isplitl [F1]; · iexact F1
  isplitr; · iexact Hmw
  isplitl [HO]; · iexact HO
  iintro ⟨R1, HO⟩
  iapply (start_fly d i fa ft q cc0_scratch8.sem 1 5)
  isplitl [R1]; · iexact R1
  isplitl [S5]; · iexact S5
  iintro F1
  iapply (await_count d i fa ft q O W cc0_scratch7.sem 0 4)
  isplitl [F0]; · iexact F0
  isplitr; · iexact Hmw
  isplitl [HO]; · iexact HO
  iintro ⟨R0, HO⟩
  iapply (start_fly d i fa ft q cc0_scratch7.sem 0 6)
  isplitl [R0]; · iexact R0
  isplitl [S6]; · iexact S6
  iintro F0
  iapply (await_count d i fa ft q O W cc0_scratch8.sem 1 5)
  isplitl [F1]; · iexact F1
  isplitr; · iexact Hmw
  isplitl [HO]; · iexact HO
  iintro ⟨R1, HO⟩
  iapply (start_fly d i fa ft q cc0_scratch8.sem 1 7)
  isplitl [R1]; · iexact R1
  isplitl [S7]; · iexact S7
  iintro F1
  iapply (await_count d i fa ft q O W cc0_scratch7.sem 0 6)
  isplitl [F0]; · iexact F0
  isplitr; · iexact Hmw
  isplitl [HO]; · iexact HO
  iintro ⟨R0, HO⟩
  iapply (await_count d i fa ft q O W cc0_scratch8.sem 1 7)
  isplitl [F1]; · iexact F1
  isplitr; · iexact Hmw
  isplitl [HO]; · iexact HO
  iintro ⟨R1, HO⟩
  iapply Hk
  isplitl [R0]; · iexact R0
  isplitl [R1]; · iexact R1
  iexact HO

end

end Cert.ScKernelIdeal.Sc

end
-- ==== Proof.ScReport.lean ====
/-
  A task's report to the shared scratch, and the first task's totals off it.
-/
module

public import proofs.«01_k».proof.Proof.ScWork
public import Idealize.ShloMosaic.Lib.WritesUnit
public import Idealize.ShloMosaic.Lib.ViewIndex

@[expose] public section

noncomputable section

namespace Cert.ScKernelIdeal.Sc

open Cert.ScKernelIdeal Cert.ScKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- Sixteen lanes of the gathered reports, from `o`. -/
abbrev lane (G : Vec F S768 .f32) (o : ℕ) (inb : ∀ a, (![o] : Fin 1 → ℕ) a + S16.size a ≤ S768.size a) : Vec F S16 .f32 :=
  fun j => G ((Rect.unit (s := S768) ![o] S16.size inb).emb j)

/-- Sixteen lanes at each place. -/
abbrev Lanes (F : FTy → Type) := (o : ℕ) → (∀ a, (![o] : Fin 1 → ℕ) a + S16.size a ≤ S768.size a) → Vec F S16 .f32

/-- The running sums after the first reports, -/
def sumsA (ln : Lanes F) : FVec F S16 .f32 × FVec F S16 .f32 × FVec F S16 .f32 :=
  (k0_pay108 (ln 32 inb_S768_S16_32) (ln 80 inb_S768_S16_80) (ln 128 inb_S768_S16_128) (ln 176 inb_S768_S16_176),
    k0_pay109 (ln 0 inb_S768_S16_0) (ln 48 inb_S768_S16_48) (ln 96 inb_S768_S16_96) (ln 144 inb_S768_S16_144) (ln 192 inb_S768_S16_192),
    k0_pay110 (ln 16 inb_S768_S16_16) (ln 64 inb_S768_S16_64) (ln 112 inb_S768_S16_112) (ln 160 inb_S768_S16_160) (ln 208 inb_S768_S16_208))
/-- after more, -/
def sumsB (ln : Lanes F) (s : FVec F S16 .f32 × FVec F S16 .f32 × FVec F S16 .f32) : FVec F S16 .f32 × FVec F S16 .f32 × FVec F S16 .f32 :=
  (k0_pay111 s.1 (ln 224 inb_S768_S16_224) (ln 272 inb_S768_S16_272) (ln 320 inb_S768_S16_320) (ln 368 inb_S768_S16_368) (ln 416 inb_S768_S16_416),
    k0_pay112 s.2.1 (ln 240 inb_S768_S16_240) (ln 288 inb_S768_S16_288) (ln 336 inb_S768_S16_336) (ln 384 inb_S768_S16_384) (ln 432 inb_S768_S16_432),
    k0_pay113 s.2.2 (ln 256 inb_S768_S16_256) (ln 304 inb_S768_S16_304) (ln 352 inb_S768_S16_352) (ln 400 inb_S768_S16_400) (ln 448 inb_S768_S16_448))
/-- and after all but the last four rows. -/
def sumsC (ln : Lanes F) (s : FVec F S16 .f32 × FVec F S16 .f32 × FVec F S16 .f32) : FVec F S16 .f32 × FVec F S16 .f32 × FVec F S16 .f32 :=
  (k0_pay114 s.1 (ln 464 inb_S768_S16_464) (ln 512 inb_S768_S16_512) (ln 560 inb_S768_S16_560) (ln 608 inb_S768_S16_608) (ln 656 inb_S768_S16_656),
    k0_pay115 s.2.1 (ln 480 inb_S768_S16_480) (ln 528 inb_S768_S16_528) (ln 576 inb_S768_S16_576) (ln 624 inb_S768_S16_624) (ln 672 inb_S768_S16_672),
    k0_pay116 s.2.2 (ln 496 inb_S768_S16_496) (ln 544 inb_S768_S16_544) (ln 592 inb_S768_S16_592) (ln 640 inb_S768_S16_640) (ln 688 inb_S768_S16_688))
/-- The ratios off the lanes. -/
def ratiosOf (ln : Lanes F) : FVec F S16 .f32 :=
  k0_pay2 (sumsC ln (sumsB ln (sumsA ln))).1 (sumsC ln (sumsB ln (sumsA ln))).2.1 (sumsC ln (sumsB ln (sumsA ln))).2.2
    (ln 704 inb_S768_S16_704) (ln 720 inb_S768_S16_720) (ln 736 inb_S768_S16_736) (ln 752 inb_S768_S16_752)

/-- The ratios off the gathered reports. -/
def ratios (G : Vec F S768 .f32) : FVec F S16 .f32 := ratiosOf (lane G)

/-- A task's report: three rows of sixteen. -/
def reportVec (i : grid0.Coords) (x : Acc) : Vec F S48 .f32 := fun y =>
  if h : ∀ a, (![32] : Fin 1 → ℕ) a ≤ (y a).val ∧ (y a).val < (![32] : Fin 1 → ℕ) a + S16.size a then
    rowL i x (Rect.unitLocal (s := S48) (off := ![32]) (size := S16.size) y h)
  else if h : ∀ a, (![16] : Fin 1 → ℕ) a ≤ (y a).val ∧ (y a).val < (![16] : Fin 1 → ℕ) a + S16.size a then
    rowP i x (Rect.unitLocal (s := S48) (off := ![16]) (size := S16.size) y h)
  else if h : ∀ a, (![0] : Fin 1 → ℕ) a ≤ (y a).val ∧ (y a).val < (![0] : Fin 1 → ℕ) a + S16.size a then
    rowI i x (Rect.unitLocal (s := S48) (off := ![0]) (size := S16.size) y h)
  else Scalar.ofBits .f32 0x00000000#32

section

variable (d : Dev nD) (i : grid0.Coords)

/-- Contents that read alike through a view are the same elements held. -/
theorem pts_of_read {sp : Space} {s : Shape} {e : EltTy} (v : View sig .scVector sp s e) {f g : Buf (Elt F) (v.loc (V d (cV i) (jV i)))}
    (h : v.read (Elt F) f = v.read (Elt F) g) :
    (v.loc (V d (cV i) (jV i)) ↦[v.set]{fullShare} f : sProp (MF F)) = v.loc (V d (cV i) (jV i)) ↦[v.set]{fullShare} g :=
  pointsTo_congr fun y hy => by
    obtain ⟨x, -, rfl⟩ := Finset.mem_map.mp hy
    exact View.eq_of_read_eq (congrFun h x)

/-- A window written whole holds the contents whose reading was written. -/
theorem pts_written {sp : Space} {s : Shape} {e : EltTy} (v : View sig .scVector sp s e) {f g : Buf (Elt F) (v.loc (V d (cV i) (jV i)))}
    {w : (Rect.whole s).shape.Idx → Elt F e} (h : w = v.read (Elt F) g) :
    (v.loc (V d (cV i) (jV i)) ↦[v.set]{fullShare} v.writes (Elt F) f [⟨Rect.whole s, w⟩] : sProp (MF F))
      = v.loc (V d (cV i) (jV i)) ↦[v.set]{fullShare} g :=
  pts_of_read d i v ((View.read_writes_whole _ _ _).trans h)

/-- The copied reports read back lane by lane. -/
theorem lane_read (f : bufG.view.ty.Contents (Elt F)) (G : Vec F S768 .f32) (o : ℕ) (inb : ∀ a, (![o] : Fin 1 → ℕ) a + S16.size a ≤ S768.size a) :
    bufG.view.readAt (Elt F) (Rect.unit (s := S768) ![o] S16.size inb).toLoadRect (bufG.view.write (Elt F) f (ReadAs.same.apply G) Finset.univ)
      = lane G o inb := by
  funext j
  show bufG.view.read (Elt F) (bufG.view.write (Elt F) f (ReadAs.same.apply G) Finset.univ) ((Rect.unit (s := S768) ![o] S16.size inb).emb j) = _
  rw [View.read_write_univ]

/-- The first eight of the ratios written. -/
theorem out_value (f : bufO.view.ty.Contents (Elt F)) (w : FVec F S16 .f32) :
    bufO8.view.read (Elt F) (bufO.view.writes (Elt F) f [⟨Rect.unit (s := S16) ![0] S16.size inb_S16_S16_0, w⟩])
      = fun y => w ((Rect.unit (s := S16) ![0] S8.size inb_S16_S8_0).emb y) := by
  funext y
  show bufO.view.read (Elt F) _ ((Rect.unit (s := S16) ![0] S8.size inb_S16_S8_0).emb y) = _
  exact View.read_writes_cons_unit_of_mem _ _ _ _ _ _ _ rfl fun a => by match a with | ⟨0, _⟩ => exact (Nat.zero_add _).symm

theorem report_value (x : Acc) (f : bufR.view.ty.Contents (Elt F)) :
    bufR.view.read (Elt F) (bufR.view.writes (Elt F) f
      [⟨Rect.unit (s := S48) ![32] S16.size inb_S48_S16_32, rowL i x⟩, ⟨Rect.unit (s := S48) ![16] S16.size inb_S48_S16_16, rowP i x⟩,
        ⟨Rect.unit (s := S48) ![0] S16.size inb_S48_S16_0, rowI i x⟩]) = reportVec i x := by
  funext y
  have hy : (y 0).val < 48 := (y 0).isLt
  unfold reportVec
  rw [View.read_writes_cons_unit _ _ _ _ _ _ rfl]
  split
  · rfl
  rename_i h1
  rw [View.read_writes_cons_unit _ _ _ _ _ _ rfl]
  split
  · rfl
  rename_i h2
  rw [View.read_writes_cons_unit _ _ _ _ _ _ rfl]
  split
  · rfl
  rename_i h3
  exfalso
  by_cases c1 : 32 ≤ (y 0).val
  · exact h1 fun a => by match a with | 0 => exact ⟨c1, hy⟩
  by_cases c2 : 16 ≤ (y 0).val
  · exact h2 fun a => by match a with | 0 => exact ⟨c2, by show (y 0).val < 16 + 16; omega⟩
  · exact h3 fun a => by match a with | 0 => exact ⟨Nat.zero_le _, by show (y 0).val < 0 + 16; omega⟩

set_option maxHeartbeats 4000000 in
theorem report_run (x : Acc) (O : CellTallies nD τ sig (HIx 1)) (W : Waits sig (HIx 1)) (g : Buf (Elt F) (shV.view.loc (V d (cV i) (jV i))))
    (hg : (shW i).view.read (Elt F) g = reportVec i x) (Q : PUnit → sProp (MF F)) :
    iprop((∃ f, bufR.view.loc (V d (cV i) (jV i)) ↦{fullShare} f)
        ∗ (∃ f, (shW i).view.loc (V d (cV i) (jV i)) ↦[(shW i).view.set]{fullShare} f)
        ∗ semVal (V d (cV i) (jV i), SemLoc.dma cc0_scoped0.sem) 0
        ∗ Transfers.MayWaits (V d (cV i) (jV i)) (default : HIx 1) O ∗ owing d i O W
        ∗ (iprop((∃ f, bufR.view.loc (V d (cV i) (jV i)) ↦{fullShare} f)
            ∗ ((shW i).view.loc (V d (cV i) (jV i)) ↦[(shW i).view.set]{fullShare} g)
            ∗ semVal (V d (cV i) (jV i), SemLoc.dma cc0_scoped0.sem) 0 ∗ owing d i O W) -∗ Q ⟨⟩))
      ⊢ wp frame (wpE (defs₀ (F := F)) 𝒱₀ (V d (cV i) (jV i)) none) Set.univ (report (F := F) i x) Q := by
  unfold owing
  iintro ⟨⟨%fr, HR⟩, ⟨%fs, HS⟩, Hsem, #Hmw, ⟨%W', %hW', HO⟩, Hk⟩
  unfold report
  sl_exec
  sl_step
  iapply Hk
  isplitl [HR]; · iexists _; iexact HR
  isplitl [HS]
  · have hw : report_run.sl.dma6 d i x fr = (shW i).view.read (Elt F) g := by
      rw [hg]
      sl_unfold_run_names
      exact report_value i x fr
    rw [← pts_written d i (shW i).view (f := fs) hw]
    iexact HS
  isplitl [Hsem]; · iexact Hsem
  iexists _; isplitr
  swap; · iexact HO
  ipureintro; intro p hp
  rcases Finset.mem_insert.mp hp with hp | hp; · exact .inr (hp ▸ rfl)
  exact hW' p hp

set_option maxHeartbeats 8000000 in
theorem total_run (h : k0_cond1 i = 1#1) (O : CellTallies nD τ sig (HIx 1)) (W : Waits sig (HIx 1)) (G : Buf (Elt F) (shV.view.loc (V d (cV i) (jV i))))
    (g : Buf (Elt F) (oV.view.loc (V d (cV i) (jV i))))
    (hg : (oW i h).view.read (Elt F) g = fun y => ratios (shV.view.read (Elt F) G) ((Rect.unit (s := S16) ![0] S8.size inb_S16_S8_0).emb y)) (Q : PUnit → sProp (MF F)) :
    iprop((∃ f, bufG.view.loc (V d (cV i) (jV i)) ↦{fullShare} f) ∗ (∃ f, bufO.view.loc (V d (cV i) (jV i)) ↦{fullShare} f)
        ∗ (shV.view.loc (V d (cV i) (jV i)) ↦{fullShare} G)
        ∗ (∃ f, (oW i h).view.loc (V d (cV i) (jV i)) ↦[(oW i h).view.set]{fullShare} f)
        ∗ semVal (V d (cV i) (jV i), SemLoc.dma cc0_scoped1.sem) 0 ∗ semVal (V d (cV i) (jV i), SemLoc.dma cc0_scoped2.sem) 0
        ∗ Transfers.MayWaits (V d (cV i) (jV i)) (default : HIx 1) O ∗ owing d i O W
        ∗ (iprop((∃ f, bufG.view.loc (V d (cV i) (jV i)) ↦{fullShare} f) ∗ (∃ f, bufO.view.loc (V d (cV i) (jV i)) ↦{fullShare} f)
            ∗ (shV.view.loc (V d (cV i) (jV i)) ↦{fullShare} G)
            ∗ ((oW i h).view.loc (V d (cV i) (jV i)) ↦[(oW i h).view.set]{fullShare} g)
            ∗ semVal (V d (cV i) (jV i), SemLoc.dma cc0_scoped1.sem) 0 ∗ semVal (V d (cV i) (jV i), SemLoc.dma cc0_scoped2.sem) 0
            ∗ owing d i O W) -∗ Q ⟨⟩))
      ⊢ wp frame (wpE (defs₀ (F := F)) 𝒱₀ (V d (cV i) (jV i)) none) Set.univ (total (F := F) i h) Q := by
  unfold owing
  iintro ⟨⟨%fr, HR⟩, ⟨%fo, HB⟩, HS, ⟨%f, HOut⟩, Hsem1, Hsem2, #Hmw, ⟨%W', %hW', HO⟩, Hk⟩
  unfold total
  unfold k0_part17_skel k0_part18_skel k0_part19_skel
  sl_exec
  sl_step
  iapply Hk
  isplitl [HR]; · iexists _; iexact HR
  isplitl [HB]; · iexists _; iexact HB
  isplitl [HS]; · iexact HS
  isplitl [HOut]
  · have hw : total_run.sl.dma50 d i G fr fo = (oW i h).view.read (Elt F) g := by
      rw [hg]
      sl_unfold_run_names
      have hl : (fun o inb => bufG.view.readAt (Elt F) (Rect.unit (s := S768) ![o] S16.size inb).toLoadRect
          (bufG.view.write (Elt F) fr (ReadAs.same.apply (shV.view.read (Elt F) G)) Finset.univ)) = lane (shV.view.read (Elt F) G) :=
        funext fun o => funext fun inb => lane_read fr _ o inb
      unfold ratios
      rw [← hl]
      unfold ratiosOf sumsC sumsB sumsA
      exact out_value fo _
    rw [← pts_written d i (oW i h).view (f := f) hw]
    iexact HOut
  isplitl [Hsem1]; · iexact Hsem1
  isplitl [Hsem2]; · iexact Hsem2
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end

end Cert.ScKernelIdeal.Sc

end
-- ==== Proof.ScCells.lean ====
/-
  What the tasks compute, the barrier between them, and what each is handed.
-/
module

public import proofs.«01_k».proof.Proof.ScReport
public import Idealize.ShloMosaic.Lib.SparseCore.Quiescent
public import Idealize.ShloMosaic.Lib.SparseCore.Ops
public import Idealize.ShloMosaic.Lib.Pipeline.Kit

@[expose] public section

noncomputable section

namespace Cert.ScKernelIdeal.Sc

open Cert.ScKernelIdeal Cert.ScKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MF F) := embL
/-- The barrier cells' rounds library: the left half of the right factor. -/
def EB : Emb UB (MF F) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (MF F)).LandsIn (upEmb : UEmb _ (MF F)) := by unfold EB; infer_instance

/-! ## The buffers -/

variable (m : (ℓ : Loc nD τ sig) → Buf (Elt F) ℓ) (ρ : Dev nD → PrngReg)

abbrev aLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- SparseCore `c`'s shared scratch. -/
abbrev shRef (c : Fin τ.nSC) : DevRef τ sig := ⟨.shared, ⟨0, by decide⟩, c⟩
abbrev shLoc (d : Dev nD) (c : Fin τ.nSC) : Loc nD τ sig := (d, shRef c)

theorem hdivS : 16 ∣ S768.size 0 := ⟨48, rfl⟩
theorem hdivO : 2 ∣ S16.size 0 := ⟨8, rfl⟩
/-- The sixteen pieces of a shared scratch, and the two halves of the result. -/
abbrev shSet (n : Fin 16) : Finset S768.Idx := (Rect.part (s := S768) (a₀ := 0) hdivS n).set
abbrev oSet (c : Fin 2) : Finset S16.Idx := (Rect.part (s := S16) (a₀ := 0) hdivO c).set

theorem nSub_eq : τ.nSub = 16 := rfl
theorem nSC_eq : τ.nSC = 2 := rfl

/-! ## What the tasks compute -/

/-- The grid's point of a subcore. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

theorem coordsV_eta (i : grid0.Coords) : coordsV (i 0) (i 1) = i := by
  funext a
  match a with
  | 0 => rfl
  | 1 => rfl

variable [FloatOps F]

/-- A task's report off the launch memory. -/
def rep (d : Dev nD) (i : grid0.Coords) : Vec F S48 .f32 :=
  reportVec i (tally d i (m (aLoc d)) (m (tLoc d)))

/-- Which task wrote an element of a shared scratch, and which element of its report that is. -/
def tileOf (k : S768.Idx) : Fin (grid0.bound 1) := ⟨(k 0).val / 48, Nat.div_lt_of_lt_mul (k 0).isLt⟩
def placeOf (k : S768.Idx) : S48.Idx := fun | ⟨0, _⟩ => ⟨(k 0).val % 48, Nat.mod_lt _ (by decide)⟩ | ⟨_ + 1, h⟩ => absurd h (Nat.not_lt.2 (Nat.le_add_left _ _))

/-- A shared scratch with every report in it. -/
def shVec (d : Dev nD) (c : Fin (grid0.bound 0)) : Vec F S768 .f32 := fun k => rep m d (coordsV c (tileOf k)) (placeOf k)
abbrev shVal (d : Dev nD) (c : Fin τ.nSC) : Buf (Elt F) (shLoc d c) := shVec m d (Fin.cast (nSC_eq.trans bound_zero.symm) c)

/-- Which core wrote an element of the result, and off which lane of its ratios. -/
def halfOf (k : S16.Idx) : Fin (grid0.bound 0) := ⟨(k 0).val / 8, Nat.div_lt_of_lt_mul (k 0).isLt⟩
def laneOf (k : S16.Idx) : S16.Idx := fun | ⟨0, _⟩ => ⟨(k 0).val % 8, lt_trans (Nat.mod_lt _ (Nat.succ_pos 7)) (show (8 : ℕ) < 16 by decide)⟩ | ⟨_ + 1, h⟩ => absurd h (Nat.not_lt.2 (Nat.le_add_left _ _))

/-- The result. -/
def outVec (d : Dev nD) : Vec F S16 .f32 := fun k => ratios (shVec m d (halfOf k)) (laneOf k)
abbrev outVal (d : Dev nD) : Buf (Elt F) (oLoc d) := outVec m d

section Values

variable (d : Dev nD) (i : grid0.Coords)

abbrev jL (i : grid0.Coords) : Fin 16 := Fin.cast bound_one (i 1)
abbrev cL (i : grid0.Coords) : Fin 2 := Fin.cast bound_zero (i 0)

theorem shW_val (y : S48.Idx) : ((shW i).view.emb y 0).val = 48 * (i 1).val + (y 0).val := by
  show (k0_off12 i) 0 + 1 * (y 0).val = _
  rw [k0_off12_eq, Nat.one_mul]; rfl

theorem read_shW : (shW i).view.read (Elt F) (shVal m d (cV i) : Buf (Elt F) (shV.view.loc (V d (cV i) (jV i)))) = reportVec i (tally d i (m (aLoc d)) (m (tLoc d))) := by
  funext y
  have hy : (y 0).val < 48 := (y 0).isLt
  have e1 : tileOf ((shW i).view.emb y) = i 1 := Fin.ext (by
    show ((shW i).view.emb y 0).val / 48 = _
    rw [shW_val]; omega)
  have e2 : placeOf ((shW i).view.emb y) = y := by
    funext a
    match a with
    | ⟨0, _⟩ => exact Fin.ext (by
        show ((shW i).view.emb y 0).val % 48 = (y 0).val
        rw [shW_val]; omega)
  show rep m d (coordsV (i 0) (tileOf ((shW i).view.emb y))) (placeOf ((shW i).view.emb y)) = rep m d i y
  rw [e1, e2, coordsV_eta]

theorem oW_val (h : k0_cond1 i = 1#1) (y : S8.Idx) : ((oW i h).view.emb y 0).val = 8 * (i 0).val + (y 0).val := by
  show (k0_off13 i) 0 + 1 * (y 0).val = _
  rw [k0_off13_eq, Nat.one_mul]; rfl

theorem read_oW (h : k0_cond1 i = 1#1) : (oW i h).view.read (Elt F) (outVal m d : Buf (Elt F) (oV.view.loc (V d (cV i) (jV i))))
    = fun y => ratios (shV.view.read (Elt F) (shVal m d (cV i) : Buf (Elt F) (shV.view.loc (V d (cV i) (jV i))))) ((Rect.unit (s := S16) ![0] S8.size inb_S16_S8_0).emb y) := by
  funext y
  have hy : (y 0).val < 8 := (y 0).isLt
  have e1 : halfOf ((oW i h).view.emb y) = i 0 := Fin.ext (by
    show ((oW i h).view.emb y 0).val / 8 = _
    rw [oW_val]; omega)
  have e2 : laneOf ((oW i h).view.emb y) = (Rect.unit (s := S16) ![0] S8.size inb_S16_S8_0).emb y := by
    funext a
    match a with
    | ⟨0, _⟩ => exact Fin.ext (show ((oW i h).view.emb y 0).val % 8 = 0 + 1 * (y 0).val by rw [oW_val]; omega)
  show ratios (shVec m d (halfOf ((oW i h).view.emb y))) (laneOf ((oW i h).view.emb y)) = ratios (shVec m d (i 0)) _
  rw [e1, e2]

end Values

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

abbrev shPts (d : Dev nD) (c : Fin τ.nSC) (n : Fin 16) (f : Buf (Elt F) (shLoc d c)) : sProp (MF F) := shLoc d c ↦[shSet n]{fullShare} f

/-- What a duty in tile 0's round hands over: its own piece of the shared scratch, the report in it; in the other
    rounds, nothing. -/
def bPay (g : GSem nD τ sig) (n : ℕ) : sProp (MF F) :=
  match g with
  | ((d, .scVector c j), _) => if j.val = 0 then (if h : n < 16 then shPts d c ⟨n, h⟩ (shVal m d c) else iprop(emp)) else iprop(emp)
  | _ => iprop(emp)

/-- The barrier cells' schedule: one round on each, of one unit duty per tile of the SparseCore. -/
def bRd : Rounds.Schedule (GSem nD τ sig) ℕ (MF F) where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ (MF F)) ((bRd m).payload g r n) := by
  show BI.Storable upEmb (bPay m g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp (MF F)) := bigSep_emp_const s

theorem bRd_duties₀ (d : Dev nD) (c : Fin τ.nSC) (j : Fin τ.nSub) : (bRd m).duties (bcell d c j) 0 = (Finset.univ : Finset (Fin τ.nSub)).image Fin.val := by
  simp [bRd, isBar]
theorem bRd_duties_succ (g : GSem nD τ sig) (r : ℕ) (hr : 1 ≤ r) : (bRd m).duties g r = ∅ :=
  if_neg fun h => absurd h.2 (Nat.ne_of_gt hr)
theorem bRd_mem₀ (d : Dev nD) (c : Fin τ.nSC) (j i : Fin τ.nSub) : i.val ∈ (bRd m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of it. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit. -/
def bkit (d : Dev nD) (c : Fin τ.nSC) (i : Fin τ.nSub) : sProp (MF F) :=
  iprop((∃ κ : GSem nD τ sig → ℕ, bigSep Finset.univ fun j : Fin (grid0.bound 1) =>
      cellInv EB (bRd m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The share of the arguments kept, a core's, and a tile's. -/
abbrev qKeep : PosShare TreeShare := Transfers.shareDrop fullShare 2
abbrev qCore (c : Fin 2) : PosShare TreeShare := Transfers.shareTok fullShare 2 c
abbrev qTile (c : Fin 2) (j : Fin 16) : PosShare TreeShare := Transfers.shareTok (qCore c) 16 j

abbrev argPts (d : Dev nD) (q : PosShare TreeShare) : sProp (MF F) := iprop((aLoc d ↦{q} m (aLoc d)) ∗ tLoc d ↦{q} m (tLoc d))
abbrev oHalf (d : Dev nD) (c : Fin 2) (f : Buf (Elt F) (oLoc d)) : sProp (MF F) := oLoc d ↦[oSet c]{fullShare} f

/-- What a task takes of the result and of the other tiles' reports: tile 0's alone. -/
def oGo (d : Dev nD) (c : Fin 2) (j : Fin 16) : sProp (MF F) := if j.val = 0 then oHalf d c (m (oLoc d)) else iprop(emp)
def oTd (d : Dev nD) (c : Fin 2) (j : Fin 16) : sProp (MF F) :=
  if j.val = 0 then iprop(oHalf d c (outVal m d) ∗ ∃ f, shLoc d (Fin.cast nSC_eq.symm c) ↦{fullShare} f) else iprop(emp)
instance oGo_storable (d : Dev nD) (c : Fin 2) (j : Fin 16) : BI.Storable (upEmb : UEmb _ (MF F)) (oGo m d c j) := by
  unfold oGo; split <;> infer_instance
instance oTd_storable (d : Dev nD) (c : Fin 2) (j : Fin 16) : BI.Storable (upEmb : UEmb _ (MF F)) (oTd m d c j) := by
  unfold oTd; split <;> infer_instance

/-- The barrier semaphores of the tasks of core `c` of the grid, at zero. -/
abbrev bars (d : Dev nD) (c : Fin ((K (F := F)).nCore 0)) : sProp (MF F) :=
  bigSep Finset.univ fun i : Fin ((K (F := F)).nSub 0) => semVal (bcell d (coreOf c) ((K (F := F)).sub 0 i)) 0

set_option backward.proofsInPublic true in
/-- A core takes shares of the arguments and its half of the result, and brings the half back written; each task takes
    its share and its piece of the shared scratch. -/
def P : (K (F := F)).Pay (nD := nD) (Val := Elt F) (Name := ℕ) (U := UU) where
  st := fun q d c => match q with | 0 => iprop(argPts m d (qCore (Fin.cast nCore_zero c)) ∗ oHalf d (Fin.cast nCore_zero c) (m (oLoc d)))
  dn := fun q d c => match q with | 0 => iprop(oHalf d (Fin.cast nCore_zero c) (outVal m d) ∗ bars d c)
  go := fun q d c i => match q with
    | 0 => iprop(argPts m d (qTile (Fin.cast nCore_zero c) (Fin.cast nSub_zero i)) ∗ oGo m d (Fin.cast nCore_zero c) (Fin.cast nSub_zero i)
        ∗ ∃ f, shPts d (coreOf c) (Fin.cast nSub_zero i) f)
  td := fun q d c i => match q with
    | 0 => iprop(oTd m d (Fin.cast nCore_zero c) (Fin.cast nSub_zero i) ∗ semVal (bcell d (coreOf c) ((K (F := F)).sub 0 i)) 0)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P m).IsStorable where
  st q d c := match q with
    | 0 => (inferInstance : BI.Storable (upEmb : UEmb _ (MF F)) iprop(argPts m d (qCore (Fin.cast nCore_zero c)) ∗ oHalf d (Fin.cast nCore_zero c) (m (oLoc d))))
  dn q d c := match q with
    | 0 => (inferInstance : BI.Storable (upEmb : UEmb _ (MF F)) iprop(oHalf d (Fin.cast nCore_zero c) (outVal m d) ∗ bars d c))
  go q d c i := match q with
    | 0 => (inferInstance : BI.Storable (upEmb : UEmb _ (MF F))
      iprop(argPts m d (qTile (Fin.cast nCore_zero c) (Fin.cast nSub_zero i)) ∗ oGo m d (Fin.cast nCore_zero c) (Fin.cast nSub_zero i)
        ∗ ∃ f, shPts d (coreOf c) (Fin.cast nSub_zero i) f))
  td q d c i := match q with
    | 0 => (inferInstance : BI.Storable (upEmb : UEmb _ (MF F))
      iprop(oTd m d (Fin.cast nCore_zero c) (Fin.cast nSub_zero i) ∗ semVal (bcell d (coreOf c) ((K (F := F)).sub 0 i)) 0))

end Cert.ScKernelIdeal.Sc

end
-- ==== Proof.ScOwn.lean ====
/-
  What a subcore owns, as the pieces its task uses.
-/
module

public import proofs.«01_k».proof.Proof.ScCells

@[expose] public section

noncomputable section

namespace Cert.ScKernelIdeal.Sc

open Cert.ScKernelIdeal Cert.ScKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

variable (m : (ℓ : Loc nD τ sig) → Buf (Elt F) ℓ) (d : Dev nD) (L : grid0.Coords)

/-! ## The subcore's own semaphores and buffers -/

abbrev dcell (s : DmaSem sig) : GSem nD τ sig := (V d (cV L) (jV L), SemLoc.dma s)

theorem mem_dcell (s : DmaSem sig) (h : (SemLoc.dma s : SemLoc sig).isScoped .scVector = true) : dcell d L s ∈ ownCells (V d (cV L) (jV L)) :=
  (mem_ownCells (g := dcell d L s)).mpr ⟨rfl, h⟩
theorem dcell_ne {s s' : DmaSem sig} (h : s ≠ s') : dcell d L s ≠ dcell d L s' := fun e => h (SemLoc.dma.inj (Prod.mk.inj e).2)

theorem ownSems0_V :
    (ownSems0 (V d (cV L) (jV L)) : sProp (MF F))
      = iprop(semVal (dcell d L cc0_scratch7.sem) 0 ∗ semVal (dcell d L cc0_scratch8.sem) 0 ∗ semVal (dcell d L cc0_scoped0.sem) 0 ∗ semVal (dcell d L cc0_scoped1.sem) 0 ∗ semVal (dcell d L cc0_scoped2.sem) 0 ∗ bigSep ((((((ownCells (V d (cV L) (jV L))).erase (dcell d L cc0_scratch7.sem)).erase (dcell d L cc0_scratch8.sem)).erase (dcell d L cc0_scoped0.sem)).erase (dcell d L cc0_scoped1.sem)).erase (dcell d L cc0_scoped2.sem)) fun g => semVal g 0) := by
  unfold SparseCore.Cfg.ownSems0
  rw [SparseCore.bigSep_erase' (mem_dcell d L cc0_scratch7.sem (by decide)),
    SparseCore.bigSep_erase' (Finset.mem_erase.mpr ⟨dcell_ne d L (s := cc0_scratch8.sem) (s' := cc0_scratch7.sem) (by decide), (mem_dcell d L cc0_scratch8.sem (by decide))⟩),
    SparseCore.bigSep_erase' (Finset.mem_erase.mpr ⟨dcell_ne d L (s := cc0_scoped0.sem) (s' := cc0_scratch8.sem) (by decide), (Finset.mem_erase.mpr ⟨dcell_ne d L (s := cc0_scoped0.sem) (s' := cc0_scratch7.sem) (by decide), (mem_dcell d L cc0_scoped0.sem (by decide))⟩)⟩),
    SparseCore.bigSep_erase' (Finset.mem_erase.mpr ⟨dcell_ne d L (s := cc0_scoped1.sem) (s' := cc0_scoped0.sem) (by decide), (Finset.mem_erase.mpr ⟨dcell_ne d L (s := cc0_scoped1.sem) (s' := cc0_scratch8.sem) (by decide), (Finset.mem_erase.mpr ⟨dcell_ne d L (s := cc0_scoped1.sem) (s' := cc0_scratch7.sem) (by decide), (mem_dcell d L cc0_scoped1.sem (by decide))⟩)⟩)⟩),
    SparseCore.bigSep_erase' (Finset.mem_erase.mpr ⟨dcell_ne d L (s := cc0_scoped2.sem) (s' := cc0_scoped1.sem) (by decide), (Finset.mem_erase.mpr ⟨dcell_ne d L (s := cc0_scoped2.sem) (s' := cc0_scoped0.sem) (by decide), (Finset.mem_erase.mpr ⟨dcell_ne d L (s := cc0_scoped2.sem) (s' := cc0_scratch8.sem) (by decide), (Finset.mem_erase.mpr ⟨dcell_ne d L (s := cc0_scoped2.sem) (s' := cc0_scratch7.sem) (by decide), (mem_dcell d L cc0_scoped2.sem (by decide))⟩)⟩)⟩)⟩)]

theorem devRef_ne {r r' : Ref sig .scVector} (h : r.idx.val ≠ r'.idx.val) :
    (Proc.scVector (cV L) (jV L) : Proc τ).devRef r ≠ (Proc.scVector (cV L) (jV L) : Proc τ).devRef r' :=
  fun e => h (congrArg (fun b : DevRef τ sig => b.idx.val) e)

theorem ownBufs_V :
    (ownBufs (V d (cV L) (jV L)) : sProp (MF F))
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨devRef_ne L (r := cc0_scratch1) (r' := cc0_scratch0) (by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨devRef_ne L (r := cc0_scratch2) (r' := cc0_scratch1) (by decide), (Finset.mem_erase.mpr ⟨devRef_ne L (r := cc0_scratch2) (r' := cc0_scratch0) (by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨devRef_ne L (r := cc0_scratch3) (r' := cc0_scratch2) (by decide), (Finset.mem_erase.mpr ⟨devRef_ne L (r := cc0_scratch3) (r' := cc0_scratch1) (by decide), (Finset.mem_erase.mpr ⟨devRef_ne L (r := cc0_scratch3) (r' := cc0_scratch0) (by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨devRef_ne L (r := cc0_scratch4) (r' := cc0_scratch3) (by decide), (Finset.mem_erase.mpr ⟨devRef_ne L (r := cc0_scratch4) (r' := cc0_scratch2) (by decide), (Finset.mem_erase.mpr ⟨devRef_ne L (r := cc0_scratch4) (r' := cc0_scratch1) (by decide), (Finset.mem_erase.mpr ⟨devRef_ne L (r := cc0_scratch4) (r' := cc0_scratch0) (by decide), (SparseCore.Cfg.mem_ownRefs_of_owner (p := Proc.scVector (cV L) (jV L)) (b := ((Proc.scVector (cV L) (jV L)).devRef cc0_scratch4)) rfl)⟩)⟩)⟩)⟩),
    SparseCore.bigSep_erase' (Finset.mem_erase.mpr ⟨devRef_ne L (r := cc0_scratch5) (r' := cc0_scratch4) (by decide), (Finset.mem_erase.mpr ⟨devRef_ne L (r := cc0_scratch5) (r' := cc0_scratch3) (by decide), (Finset.mem_erase.mpr ⟨devRef_ne L (r := cc0_scratch5) (r' := cc0_scratch2) (by decide), (Finset.mem_erase.mpr ⟨devRef_ne L (r := cc0_scratch5) (r' := cc0_scratch1) (by decide), (Finset.mem_erase.mpr ⟨devRef_ne L (r := cc0_scratch5) (r' := cc0_scratch0) (by decide), (SparseCore.Cfg.mem_ownRefs_of_owner (p := Proc.scVector (cV L) (jV L)) (b := ((Proc.scVector (cV L) (jV L)).devRef cc0_scratch5)) rfl)⟩)⟩)⟩)⟩)⟩)]

/-! ## A scratch of two chunks as its slots -/

theorem hdivB : 2 ∣ S2x16x512.size 0 := ⟨1, rfl⟩

theorem slotRect_eq (s : Fin 2) : Rect.unit (s := S2x16x512) ![s.val, 0, 0] S1x16x512.size (slot_inb s) = Rect.part (s := S2x16x512) (a₀ := 0) hdivB s := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem slice_set_bufA {r r' : Rect S2x16x512} (h : r = r') : (bufA.view.slice r).set = r'.set := by
  subst h; rw [View.set_slice]; exact Finset.map_refl
theorem slice_set_bufB {r r' : Rect S2x16x512} (h : r = r') : (bufB.view.slice r).set = r'.set := by
  subst h; rw [View.set_slice]; exact Finset.map_refl
theorem slice_set_bufT {r r' : Rect S2x16x512} (h : r = r') : (bufT.view.slice r).set = r'.set := by
  subst h; rw [View.set_slice]; exact Finset.map_refl
theorem slice_set_shV {r r' : Rect S768} (h : r = r') : (shV.view.slice r).set = r'.set := by
  subst h; rw [View.set_slice]; exact Finset.map_refl
theorem slice_set_oV {r r' : Rect S16} (h : r = r') : (oV.view.slice r).set = r'.set := by
  subst h; rw [View.set_slice]; exact Finset.map_refl

theorem slotA_set (s : Fin 2) : (slotOf bufA s).view.set = (Rect.part (s := S2x16x512) (a₀ := 0) hdivB s).set := by
  show ((bufA.view.slice (Rect.unit (s := S2x16x512) ![s.val, 0, 0] S1x16x512.size (slot_inb s))).reshape S16x512 squeezes_S1x16x512_S16x512.numel_eq).set = _
  rw [View.set_reshape]
  exact slice_set_bufA (slotRect_eq s)
theorem slotB_set (s : Fin 2) : (slotOf bufB s).view.set = (Rect.part (s := S2x16x512) (a₀ := 0) hdivB s).set := by
  show ((bufB.view.slice (Rect.unit (s := S2x16x512) ![s.val, 0, 0] S1x16x512.size (slot_inb s))).reshape S16x512 squeezes_S1x16x512_S16x512.numel_eq).set = _
  rw [View.set_reshape]
  exact slice_set_bufB (slotRect_eq s)
theorem slotT_set (s : Fin 2) : (slotOf bufT s).view.set = (Rect.part (s := S2x16x512) (a₀ := 0) hdivB s).set := by
  show ((bufT.view.slice (Rect.unit (s := S2x16x512) ![s.val, 0, 0] S1x16x512.size (slot_inb s))).reshape S16x512 squeezes_S1x16x512_S16x512.numel_eq).set = _
  rw [View.set_reshape]
  exact slice_set_bufT (slotRect_eq s)

theorem halves_disjoint : Disjoint (Rect.part (s := S2x16x512) (a₀ := 0) hdivB 0).set (Rect.part (s := S2x16x512) (a₀ := 0) hdivB 1).set :=
  Rect.part_disjoint hdivB (by decide)
theorem halves_cover : (Rect.part (s := S2x16x512) (a₀ := 0) hdivB 0).set ∪ (Rect.part (s := S2x16x512) (a₀ := 0) hdivB 1).set = Finset.univ := by
  rw [← Rect.biUnion_part hdivB, show (Finset.univ : Finset (Fin 2)) = {0, 1} from rfl, Finset.biUnion_insert, Finset.singleton_biUnion]

/-- Held whole at some contents is held as two parts at some contents, and back. -/
theorem two_split {ℓ : Loc nD τ sig} {I J : Finset (Idx ℓ)} (hd : Disjoint I J) (hc : I ∪ J = Finset.univ) :
    (iprop(∃ f, ℓ ↦{fullShare} f) : sProp (MF F)) ⊢ iprop((∃ f, ℓ ↦[I]{fullShare} f) ∗ ∃ f, ℓ ↦[J]{fullShare} f) := by
  iintro ⟨%f, H⟩
  rw [← hc]
  ihave H' := (pointsTo_union hd).1 $$ H
  icases H' with ⟨H1, H2⟩
  isplitl [H1]
  · iexists _; iexact H1
  · iexists _; iexact H2
theorem two_join {ℓ : Loc nD τ sig} {I J : Finset (Idx ℓ)} (hd : Disjoint I J) (hc : I ∪ J = Finset.univ) :
    (iprop((∃ f, ℓ ↦[I]{fullShare} f) ∗ ∃ f, ℓ ↦[J]{fullShare} f) : sProp (MF F)) ⊢ iprop(∃ f, ℓ ↦{fullShare} f) := by
  iintro ⟨⟨%f, H1⟩, %g, H2⟩
  ihave H := (pointsTo_join hd) $$ [H1 H2]
  · isplitl [H1] <;> iassumption
  rw [hc]
  iexists _; iexact H

theorem slotsA : (iprop(∃ f, (V d (cV L) (jV L)).loc cc0_scratch0 ↦{fullShare} f) : sProp (MF F)) ⊢ iprop((∃ f, ptA d L 0 f) ∗ ∃ f, ptA d L 1 f) := by
  unfold ptA; rw [slotA_set, slotA_set]; exact two_split halves_disjoint halves_cover
theorem slotsB : (iprop(∃ f, (V d (cV L) (jV L)).loc cc0_scratch1 ↦{fullShare} f) : sProp (MF F)) ⊢ iprop((∃ f, ptB d L 0 f) ∗ ∃ f, ptB d L 1 f) := by
  unfold ptB; rw [slotB_set, slotB_set]; exact two_split halves_disjoint halves_cover
theorem slotsT : (iprop(∃ f, (V d (cV L) (jV L)).loc cc0_scratch2 ↦{fullShare} f) : sProp (MF F)) ⊢ iprop((∃ f, ptT d L 0 f) ∗ ∃ f, ptT d L 1 f) := by
  unfold ptT; rw [slotT_set, slotT_set]; exact two_split halves_disjoint halves_cover
theorem joinA : iprop((∃ f, ptA d L 0 f) ∗ ∃ f, ptA d L 1 f) ⊢ (iprop(∃ f, (V d (cV L) (jV L)).loc cc0_scratch0 ↦{fullShare} f) : sProp (MF F)) := by
  unfold ptA; rw [slotA_set, slotA_set]; exact two_join halves_disjoint halves_cover
theorem joinB : iprop((∃ f, ptB d L 0 f) ∗ ∃ f, ptB d L 1 f) ⊢ (iprop(∃ f, (V d (cV L) (jV L)).loc cc0_scratch1 ↦{fullShare} f) : sProp (MF F)) := by
  unfold ptB; rw [slotB_set, slotB_set]; exact two_join halves_disjoint halves_cover
theorem joinT : iprop((∃ f, ptT d L 0 f) ∗ ∃ f, ptT d L 1 f) ⊢ (iprop(∃ f, (V d (cV L) (jV L)).loc cc0_scratch2 ↦{fullShare} f) : sProp (MF F)) := by
  unfold ptT; rw [slotT_set, slotT_set]; exact two_join halves_disjoint halves_cover

/-! ## The pieces of the shared scratch and of the result -/

theorem shRect_eq : Rect.unit (s := S768) (k0_off12 L) S48.size (k0_off12_inb L) = Rect.part (s := S768) (a₀ := 0) hdivS (jL L) := by
  unfold Rect.part Rect.block
  congr 1 <;> funext a
  · rw [k0_off12_eq]
    match a with
    | 0 => simp [Shape.partIx, Shape.partSize, Nat.mul_comm]
  · match a with
    | 0 => simp [Shape.partSize]
theorem shW_set : (shW L).view.set = shSet (jL L) := by
  show (shV.view.slice (Rect.unit (s := S768) (k0_off12 L) S48.size (k0_off12_inb L))).set = _
  exact slice_set_shV (shRect_eq L)
theorem pts_shW (f : Buf (Elt F) (shLoc d (cV L))) :
    ((shW L).view.loc (V d (cV L) (jV L)) ↦[(shW L).view.set]{fullShare} f : sProp (MF F)) = shPts d (cV L) (jL L) f := by
  unfold shPts; rw [shW_set]; rfl

theorem oRect_eq (h : k0_cond1 L = 1#1) : Rect.unit (s := S16) (k0_off13 L) S8.size (k0_off13_inb L h) = Rect.part (s := S16) (a₀ := 0) hdivO (cL L) := by
  unfold Rect.part Rect.block
  congr 1 <;> funext a
  · rw [k0_off13_eq]
    match a with
    | 0 => simp [Shape.partIx, Shape.partSize, Nat.mul_comm]
  · match a with
    | 0 => simp [Shape.partSize]
theorem oW_set (h : k0_cond1 L = 1#1) : (oW L h).view.set = oSet (cL L) := by
  show (oV.view.slice (Rect.unit (s := S16) (k0_off13 L) S8.size (k0_off13_inb L h))).set = _
  exact slice_set_oV (oRect_eq L h)
theorem pts_oW (h : k0_cond1 L = 1#1) (f : Buf (Elt F) (oLoc d)) :
    ((oW L h).view.loc (V d (cV L) (jV L)) ↦[(oW L h).view.set]{fullShare} f : sProp (MF F)) = oHalf d (cL L) f := by
  unfold oHalf; rw [oW_set]

theorem sh_disjoint : ∀ i ∈ (Finset.univ : Finset (Fin 16)), ∀ j ∈ (Finset.univ : Finset (Fin 16)), i ≠ j → Disjoint (shSet i) (shSet j) :=
  fun i _ j _ h => Rect.part_disjoint hdivS h
theorem sh_cover : (Finset.univ : Finset (Fin 16)).biUnion shSet = Finset.univ := Rect.biUnion_part hdivS
theorem sh_pieces (c : Fin τ.nSC) (f : Buf (Elt F) (shLoc d c)) :
    (shLoc d c ↦{fullShare} f : sProp (MF F)) = bigSep Finset.univ fun i : Fin 16 => shPts d c i f := by
  unfold shPts
  rw [← pointsTo_biUnion Finset.univ (ℓ := shLoc d c) shSet sh_disjoint, sh_cover]; try rfl

theorem cond1_iff : ∀ i : grid0.Coords, k0_cond1 i = 1#1 ↔ (i 1).val = 0 := by decide +kernel

variable [FloatOps F]

/-! ## The shares of the chunks -/

/-- The shares a task's copies take. -/
abbrev qs (q : PosShare TreeShare) (r : Fin 8) : Fin 3 → PosShare TreeShare
  | 0 => Transfers.shareTok q.left 8 r
  | 1 => Transfers.shareTok q.right 8 r
  | 2 => Transfers.shareTok q 8 r

theorem narrow {ℓ : Loc nD τ sig} (q : PosShare TreeShare) (I : Finset (Idx ℓ)) (f : Buf (Elt F) ℓ) :
    (ℓ ↦{q} f : sProp (MF F)) ⊢ ℓ ↦[I]{q} f :=
  (pointsTo_split_subset (Finset.subset_univ I)).1.trans sep_elim_left

theorem narrowA (r : Fin 8) (q : PosShare TreeShare) :
    (aLoc d ↦{q} m (aLoc d) : sProp (MF F)) ⊢ (srcA L r).view.loc (V d (cV L) (jV L)) ↦[(srcA L r).view.set]{q} m (aLoc d) :=
  narrow (ℓ := aLoc d) q _ (m (aLoc d))
theorem narrowB (r : Fin 8) (q : PosShare TreeShare) :
    (aLoc d ↦{q} m (aLoc d) : sProp (MF F)) ⊢ (srcB L r).view.loc (V d (cV L) (jV L)) ↦[(srcB L r).view.set]{q} m (aLoc d) :=
  narrow (ℓ := aLoc d) q _ (m (aLoc d))
theorem narrowT (r : Fin 8) (q : PosShare TreeShare) :
    (tLoc d ↦{q} m (tLoc d) : sProp (MF F)) ⊢ (srcT L r).view.loc (V d (cV L) (jV L)) ↦[(srcT L r).view.set]{q} m (tLoc d) :=
  narrow (ℓ := tLoc d) q _ (m (tLoc d))

theorem srcs_deal (q : PosShare TreeShare) :
    (argPts m d q : sProp (MF F)) ⊢ bigSep Finset.univ fun r : Fin 8 => src d L (m (aLoc d)) (m (tLoc d)) (qs q) r := by
  have hA : (aLoc d ↦{q.left} m (aLoc d) : sProp (MF F)) ⊢ bigSep Finset.univ fun r : Fin 8 => srcs d L (qs q r) (m (aLoc d)) (m (tLoc d)) r 0 :=
    ((Transfers.pointsTo_toks_split q.left 8).trans sep_elim_right).trans (SparseCore.ent (bigSep_mono fun r _ => narrowA m d L r _))
  have hB : (aLoc d ↦{q.right} m (aLoc d) : sProp (MF F)) ⊢ bigSep Finset.univ fun r : Fin 8 => srcs d L (qs q r) (m (aLoc d)) (m (tLoc d)) r 1 :=
    ((Transfers.pointsTo_toks_split q.right 8).trans sep_elim_right).trans (SparseCore.ent (bigSep_mono fun r _ => narrowB m d L r _))
  have hT : (tLoc d ↦{q} m (tLoc d) : sProp (MF F)) ⊢ bigSep Finset.univ fun r : Fin 8 => srcs d L (qs q r) (m (aLoc d)) (m (tLoc d)) r 2 :=
    ((Transfers.pointsTo_toks_split q 8).trans sep_elim_right).trans (SparseCore.ent (bigSep_mono fun r _ => narrowT m d L r _))
  have e : (bigSep Finset.univ fun r : Fin 8 => src d L (m (aLoc d)) (m (tLoc d)) (qs q) r : sProp (MF F))
      = iprop((bigSep Finset.univ fun r : Fin 8 => srcs d L (qs q r) (m (aLoc d)) (m (tLoc d)) r 0)
        ∗ (bigSep Finset.univ fun r : Fin 8 => srcs d L (qs q r) (m (aLoc d)) (m (tLoc d)) r 1)
        ∗ bigSep Finset.univ fun r : Fin 8 => srcs d L (qs q r) (m (aLoc d)) (m (tLoc d)) r 2) := by
    rw [← bigSep_sep', ← bigSep_sep']; rfl
  rw [e]
  iintro ⟨Ha, Ht⟩
  ihave Ha' := (pointsTo_share (PosShare.mem_left_op_right q)).1 $$ Ha
  icases Ha' with ⟨H0, H1⟩
  isplitl [H0]; · iapply hA; iexact H0
  isplitl [H1]; · iapply hB; iexact H1
  iapply hT; iexact Ht

theorem srcs_list (q : PosShare TreeShare) :
    (argPts m d q : sProp (MF F)) ⊢ iprop(src d L (m (aLoc d)) (m (tLoc d)) (qs q) 0 ∗ src d L (m (aLoc d)) (m (tLoc d)) (qs q) 1 ∗ src d L (m (aLoc d)) (m (tLoc d)) (qs q) 2
      ∗ src d L (m (aLoc d)) (m (tLoc d)) (qs q) 3 ∗ src d L (m (aLoc d)) (m (tLoc d)) (qs q) 4 ∗ src d L (m (aLoc d)) (m (tLoc d)) (qs q) 5
      ∗ src d L (m (aLoc d)) (m (tLoc d)) (qs q) 6 ∗ src d L (m (aLoc d)) (m (tLoc d)) (qs q) 7) :=
  (srcs_deal m d L q).trans (Entails.of_eq (bigSep_univ_eq_bigSepL [0, 1, 2, 3, 4, 5, 6, 7] (by decide) (by decide) _))

/-! ## The barrier's payloads -/

/-- Before the barrier, a tile's duties: in tile 0's round its piece, in the others nothing. -/
theorem pays_intro : shPts d (cV L) (jL L) (shVal m d (cV L))
    ⊢ (bigSep Finset.univ fun j : Fin (grid0.bound 1) => (bRd m).payload (bcell d (cV L) (j.castLE hsub0)) 0 (jV L).val : sProp (MF F)) := by
  let j₀ : Fin (grid0.bound 1) := ⟨0, by decide⟩
  rw [SparseCore.bigSep_erase' (Finset.mem_univ j₀),
    show (bigSep (Finset.univ.erase j₀) fun j : Fin (grid0.bound 1) => (bRd m).payload (bcell d (cV L) (j.castLE hsub0)) 0 (jV L).val)
      = bigSep (Finset.univ.erase j₀) fun _ => (iprop(emp) : sProp (MF F)) from
      bigSep_congr fun j hj => if_neg fun h => (Finset.mem_erase.mp hj).1 (Fin.ext h), bigSep_emp']
  iintro H
  isplitl [H]
  · show _ ⊢ bPay m (bcell d (cV L) (j₀.castLE hsub0)) (jV L).val
    unfold bPay; dsimp only
    rw [if_pos (show ((j₀.castLE hsub0 : Fin τ.nSub)).val = 0 from rfl), dif_pos (show (jV L).val < 16 from (L 1).isLt)]
    exact BI.Entails.refl _
  · iempintro

/-- After it tile 0's round has every piece: the shared scratch with every report in it. -/
theorem pays_elim (h : (L 1).val = 0) : (bigSep ((bRd m).duties (bcell d (cV L) (jV L)) 0 \ ∅) fun n => (bRd m).payload (bcell d (cV L) (jV L)) 0 n)
    ⊢ (shLoc d (cV L) ↦{fullShare} shVal m d (cV L) : sProp (MF F)) := by
  rw [Finset.sdiff_empty, bRd_duties₀, sh_pieces, SparseCore.bigSep_image_of_injOn (fun a _ b _ e => Fin.ext e)]
  refine SparseCore.ent (bigSep_mono (s := (Finset.univ : Finset (Fin 16))) fun n _ => ?_)
  show bPay m (bcell d (cV L) (jV L)) n.val ⊢ _
  unfold bPay; dsimp only
  rw [if_pos (show (jV L).val = 0 from h), dif_pos n.isLt]

end Tile

end Cert.ScKernelIdeal.Sc

end
-- ==== Proof.ScTile.lean ====
/-
  The task on a vector subcore, as the launch asks it.
-/
module

public import proofs.«01_k».proof.Proof.ScOwn

@[expose] public section

noncomputable section

namespace Cert.ScKernelIdeal.Sc

open Cert.ScKernelIdeal Cert.ScKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable (m : (ℓ : Loc nD τ sig) → Buf (Elt F) ℓ)

section Tile

variable (d : Dev nD) (L : grid0.Coords)

/-- What follows the barrier: tile 0's totals, the other tiles nothing. -/
theorem tail_run (O : CellTallies nD τ sig (HIx 1)) (W : Waits sig (HIx 1)) (Q : PUnit → sProp (MF F)) :
    iprop(oGo m d (cL L) (jL L)
        ∗ (bigSep ((bRd m).duties (bcell d (cV L) (jV L)) 0 \ ∅) fun n => (bRd m).payload (bcell d (cV L) (jV L)) 0 n)
        ∗ (∃ f, (V d (cV L) (jV L)).loc cc0_scratch3 ↦{fullShare} f) ∗ (∃ f, (V d (cV L) (jV L)).loc cc0_scratch5 ↦{fullShare} f)
        ∗ semVal (V d (cV L) (jV L), SemLoc.dma cc0_scoped1.sem) 0 ∗ semVal (V d (cV L) (jV L), SemLoc.dma cc0_scoped2.sem) 0
        ∗ Transfers.MayWaits (V d (cV L) (jV L)) (default : HIx 1) O ∗ owing d L O W
        ∗ (iprop(oTd m d (cL L) (jL L)
            ∗ (∃ f, (V d (cV L) (jV L)).loc cc0_scratch3 ↦{fullShare} f) ∗ (∃ f, (V d (cV L) (jV L)).loc cc0_scratch5 ↦{fullShare} f)
            ∗ semVal (V d (cV L) (jV L), SemLoc.dma cc0_scoped1.sem) 0 ∗ semVal (V d (cV L) (jV L), SemLoc.dma cc0_scoped2.sem) 0
            ∗ owing d L O W) -∗ Q ⟨⟩))
      ⊢ wp frame (wpE (defs₀ (F := F)) 𝒱₀ (V d (cV L) (jV L)) none) Set.univ (if h : k0_cond1 L = 1#1 then total (F := F) L h else pure ⟨⟩) Q := by
  by_cases h : k0_cond1 L = 1#1
  · have h0 : (jL L).val = 0 := (cond1_iff L).mp h
    rw [dif_pos h]
    unfold oGo oTd
    rw [if_pos h0, if_pos h0]
    iintro ⟨Hgo, Hgot, HG, HO2, C1, C2, #Hmw2, HO, Hk⟩
    ihave Hall := (pays_elim m d L ((cond1_iff L).mp h)) $$ Hgot
    iapply (total_run d L h O W (shVal m d (cV L)) (outVal m d) (read_oW m d L h))
    isplitl [HG]; · iexact HG
    isplitl [HO2]; · iexact HO2
    isplitl [Hall]; · iexact Hall
    isplitl [Hgo]
    · iexists _
      iapply (Entails.of_eq (pts_oW d L h _).symm); iexact Hgo
    isplitl [C1]; · iexact C1
    isplitl [C2]; · iexact C2
    isplitr; · iexact Hmw2
    isplitl [HO]; · iexact HO
    iintro ⟨HG, HO2, Hall, Hout, C1, C2, HO⟩
    iapply Hk
    isplitl [Hall Hout]
    · isplitl [Hout]; · iapply (Entails.of_eq (pts_oW d L h _)); iexact Hout
      iexists _; iexact Hall
    isplitl [HG]; · iexact HG
    isplitl [HO2]; · iexact HO2
    isplitl [C1]; · iexact C1
    isplitl [C2]; · iexact C2
    iexact HO
  · have h0 : ¬ (jL L).val = 0 := fun e => h ((cond1_iff L).mpr e)
    rw [dif_neg h]
    unfold oGo oTd
    rw [if_neg h0, if_neg h0, wp_pure]
    iintro ⟨-, -, HG, HO2, C1, C2, -, HO, Hk⟩
    imodintro
    iapply Hk
    isplitr; · iempintro
    isplitl [HG]; · iexact HG
    isplitl [HO2]; · iexact HO2
    isplitl [C1]; · iexact C1
    isplitl [C2]; · iexact C2
    iexact HO

set_option maxHeartbeats 4000000 in
/-- The task on vector subcore `(L 0, L 1)`: the chunks counted, the report written to its piece of the shared scratch,
    the piece handed to tile 0's round of the barrier; and tile 0 then reads every report and writes its core's half of
    the result. -/
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (argPts m d (qTile (cL L) (jL L)) ∗ oGo m d (cL L) (jL L) ∗ ∃ f, shPts d (cV L) (jL L) f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (task L)
          fun _ => iprop((oTd m d (cL L) (jL L) ∗ semVal (bcell d (cV L) (jV L)) 0)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold bkit task
  iintro ⟨#Hlv, ⟨⟨%κ, #Hinv⟩, Htoks, #Hrch, Hat, Hcred⟩, ⟨Hargs, Hgo, Hsh⟩, ⟨HA, HB, HT, HG, HR, HO2, Hbufs⟩, ⟨S7, S8, C0, C1, C2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  icases Hmw1 with #Hmw1
  icases Hmw2 with #Hmw2
  ihave HA' := (slotsA d L) $$ HA
  ihave HB' := (slotsB d L) $$ HB
  ihave HT' := (slotsT d L) $$ HT
  icases HA' with ⟨A0, A1⟩
  icases HB' with ⟨B0, B1⟩
  icases HT' with ⟨T0, T1⟩
  ihave Hsrc := (srcs_list m d L (qTile (cL L) (jL L))) $$ Hargs
  rw [wp_bind]
  iapply (work_run d L (m (aLoc d)) (m (tLoc d)) (qs (qTile (cL L) (jL L))) (O + oxV d (cV L)) W)
  isplitl [A0 B0 T0 S7]
  · unfold rest
    isplitl [A0]; · iexact A0
    isplitl [B0]; · iexact B0
    isplitl [T0]; · iexact T0
    iexact S7
  isplitl [A1 B1 T1 S8]
  · unfold rest
    isplitl [A1]; · iexact A1
    isplitl [B1]; · iexact B1
    isplitl [T1]; · iexact T1
    iexact S8
  isplitl [Hsrc]; · iexact Hsrc
  isplitr; · iexact Hmw1
  isplitl [HO]
  · unfold owing
    iexists W; isplitr
    · ipureintro; exact fun p hp => .inl hp
    · iexact HO
  iintro ⟨R0, R1, HO⟩
  rw [wp_bind]
  iapply (report_run d L (tally d L (m (aLoc d)) (m (tLoc d))) (O + oxV d (cV L)) W (shVal m d (cV L)) (read_shW m d L))
  isplitl [HR]; · iexact HR
  isplitl [Hsh]
  · icases Hsh with ⟨%fs, Hsh⟩
    iexists fs
    iapply (Entails.of_eq (pts_shW d L fs).symm); iexact Hsh
  isplitl [C0]; · iexact C0
  isplitr; · iexact Hmw1
  isplitl [HO]; · iexact HO
  iintro ⟨HR, Hsh, C0, HO⟩
  unfold owing
  icases HO with ⟨%W1, %hW1, HO⟩
  -- the barrier
  ihave Hsh' := (Entails.of_eq (pts_shW d L (shVal m d (cV L)))) $$ Hsh
  ihave Hpays := (pays_intro m d L) $$ Hsh'
  iapply (SparseCore.wp_subcoreBarrier 𝒱₀ none EB (bRd m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV L) (jV L)) (Set.mem_univ (κ _)) (fun h => h) (bRd_duties_succ m _)) $$ [Hat] with Hbar
  · isplitr
    · iapply (SparseCore.ent (bigSep_elim (Φ := fun j : Fin (grid0.bound 1) =>
        (cellInv EB (bRd m) (κ (bcell d (cV L) (j.castLE hsub0))) (bcell d (cV L) (j.castLE hsub0)) : sProp (MF F))) (Finset.mem_univ (L 1)))); iexact Hinv
    · iexact Hat
  unfold rest
  icases R0 with ⟨A0, B0, T0, S7⟩
  icases R1 with ⟨A1, B1, T1, S8⟩
  ihave HA := (joinA d L) $$ [A0 A1]
  · isplitl [A0] <;> iassumption
  ihave HB := (joinB d L) $$ [B0 B1]
  · isplitl [B0] <;> iassumption
  ihave HT := (joinT d L) $$ [T0 T1]
  · isplitl [T0] <;> iassumption
  iapply (tail_run m d L O (insert (SemLoc.reg sc_bar0, some 0) W1))
  isplitl [Hgo]; · iexact Hgo
  isplitl [Hgot]; · iexact Hgot
  isplitl [HG]; · iexact HG
  isplitl [HO2]; · iexact HO2
  isplitl [C1]; · iexact C1
  isplitl [C2]; · iexact C2
  isplitr; · iexact Hmw2
  isplitl [HO]
  · unfold owing
    iexists _; isplitr
    swap; · iexact HO
    ipureintro; exact fun p hp => .inl hp
  iintro ⟨Htd, HG, HO2, C1, C2, HO⟩
  isplitl [Htd Hbar]
  · isplitl [Htd] <;> iassumption
  isplitl [HA HB HT HG HR HO2 Hbufs]
  · isplitl [HA]; · iexact HA
    isplitl [HB]; · iexact HB
    isplitl [HT]; · iexact HT
    isplitl [HG]; · iexact HG
    isplitl [HR]; · iexact HR
    isplitl [HO2]; · iexact HO2
    iexact Hbufs
  isplitl [S7 S8 C0 C1 C2 Hsems]
  · isplitl [S7]; · iexact S7
    isplitl [S8]; · iexact S8
    isplitl [C0]; · iexact C0
    isplitl [C1]; · iexact C1
    isplitl [C2]; · iexact C2
    iexact Hsems
  unfold owing
  icases HO with ⟨%W2, %hW2, HO⟩
  iexists W2; isplitr
  swap; · iexact HO
  ipureintro; intro p hp
  rcases hW2 p hp with hp | hp
  · rcases Finset.mem_insert.mp hp with hp | hp
    · exact .inr (.inr (hp ▸ rfl))
    · rcases hW1 p hp with hp | hp
      · exact .inl hp
      · exact .inr (.inl hp)
  · exact .inr (.inl hp)

end Tile

/-! ## The obligation -/

theorem defs₀_vector (c : Fin τ.nSC) (s : Fin τ.nSub) :
    defs₀ (F := F) (.scVector c s) 0 ()
      = SparseCore.onTile hcore0 hsub0 (fun c s => cc0__sc_body (coordsV c s) aV (Memref.isWhole_whole _) tV (Memref.isWhole_whole _) oV (Memref.isWhole_whole _) bufA (Memref.isWhole_whole _) bufB (Memref.isWhole_whole _) bufT (Memref.isWhole_whole _) bufG (Memref.isWhole_whole _) bufR (Memref.isWhole_whole _) bufO (Memref.isWhole_whole _) shV (Memref.isWhole_whole _) cc0_scratch7 cc0_scratch8 cc0_scoped0 cc0_scoped1 cc0_scoped2) ⟨⟩ c s := rfl

set_option maxRecDepth 16384 in
theorem tileObl (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [task_eq]
  exact tile_body m d (coordsV ⟨_, hci.1⟩ ⟨_, hci.2⟩) hF O W hO hOlev

end Cert.ScKernelIdeal.Sc

end
-- ==== Proof.ScLaunch.lean ====
/-
  The call's run, whole.
-/
module

public import proofs.«01_k».proof.Proof.ScTile

@[expose] public section

noncomputable section

namespace Cert.ScKernelIdeal.Sc

open Cert.ScKernelIdeal Cert.ScKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable (m : (ℓ : Loc nD τ sig) → Buf (Elt F) ℓ) (ρ : Dev nD → PrngReg)

/-! ## A core's operands dealt to its tasks -/

omit [FloatOps F] in
theorem bigSep_tasks (Φ : Fin 16 → sProp (MF F)) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp (MF F)) :
    (bigSep Finset.univ fun c : Fin ((K (F := F)).nCore 0) => Φ (Fin.cast nCore_zero c)) = bigSep Finset.univ Φ :=
  bigSep_congr fun _ _ => congrArg Φ (Fin.ext rfl)

theorem args_deal (d : Dev nD) (q : PosShare TreeShare) (n : ℕ) :
    (argPts m d q : sProp (MF F)) ⊢ iprop(argPts m d (Transfers.shareDrop q n) ∗ bigSep Finset.univ fun i : Fin n => argPts m d (Transfers.shareTok q n i)) := by
  unfold argPts
  rw [bigSep_sep']
  iintro ⟨Ha, Ht⟩
  ihave Ha' := (Transfers.pointsTo_toks_split q n) $$ Ha
  ihave Ht' := (Transfers.pointsTo_toks_split q n) $$ Ht
  icases Ha' with ⟨A0, A1⟩
  icases Ht' with ⟨T0, T1⟩
  isplitl [A0 T0]
  · isplitl [A0]; · iexact A0
    iexact T0
  isplitl [A1]; · iexact A1
  iexact T1

theorem oGo_all (d : Dev nD) (c : Fin 2) : (bigSep Finset.univ fun j : Fin 16 => oGo m d c j) = (oHalf d c (m (oLoc d)) : sProp (MF F)) := by
  rw [SparseCore.bigSep_erase' (Finset.mem_univ (0 : Fin 16)),
    show (bigSep (Finset.univ.erase (0 : Fin 16)) fun j : Fin 16 => oGo m d c j) = bigSep (Finset.univ.erase (0 : Fin 16)) fun _ => (iprop(emp) : sProp (MF F)) from
      bigSep_congr fun j hj => if_neg fun h => (Finset.mem_erase.mp hj).1 (Fin.ext h), bigSep_emp',
    show oGo m d c 0 = oHalf d c (m (oLoc d)) from if_pos rfl]
  exact Entails.antisymm sep_emp.1 sep_emp.2

theorem oTd_all (d : Dev nD) (c : Fin 2) : (bigSep Finset.univ fun j : Fin 16 => oTd m d c j)
    ⊢ (iprop(oHalf d c (outVal m d) ∗ ∃ f, shLoc d (Fin.cast nSC_eq.symm c) ↦{fullShare} f) : sProp (MF F)) := by
  refine (SparseCore.ent (bigSep_elim (i := (0 : Fin 16)) (Finset.mem_univ _))).trans ?_
  exact Entails.of_eq (if_pos rfl)

omit [FloatOps F] in
theorem ownBufs_S (d : Dev nD) (c : Fin τ.nSC) :
    (ownBufs (S d c) : sProp (MF F))
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem sh_deal (d : Dev nD) (c : Fin τ.nSC) : (iprop(∃ f, shLoc d c ↦{fullShare} f) : sProp (MF F)) ⊢ bigSep Finset.univ fun i : Fin 16 => iprop(∃ f, shPts d c i f) := by
  iintro ⟨%f, H⟩
  iapply (SparseCore.ent (bigSep_mono (Φ := fun i => shPts (F := F) d c i f) (Ψ := fun i => iprop(∃ f, shPts (F := F) d c i f))
      fun i _ => BI.BIClass.exists_intro (Φ := fun f => shPts (F := F) d c i f) f))
  iapply (Entails.of_eq (sh_pieces d c f)); iexact H

theorem vecSplit : (K (F := F)).VecSplit (P m) 0 := by
  intro d c
  show iprop(iprop(argPts m d (qCore (Fin.cast nCore_zero c)) ∗ oHalf d (Fin.cast nCore_zero c) (m (oLoc d))) ∗ ownBufs (S d (coreOf c))) ⊢ |={Set.univ}=> iprop(
      (bigSep Finset.univ fun i : Fin ((K (F := F)).nSub 0) => iprop(argPts m d (qTile (Fin.cast nCore_zero c) (Fin.cast nSub_zero i))
        ∗ oGo m d (Fin.cast nCore_zero c) (Fin.cast nSub_zero i) ∗ ∃ f, shPts d (coreOf c) (Fin.cast nSub_zero i) f))
      ∗ ((bigSep Finset.univ fun i : Fin ((K (F := F)).nSub 0) => iprop(oTd m d (Fin.cast nCore_zero c) (Fin.cast nSub_zero i)
            ∗ semVal (bcell d (coreOf c) ((K (F := F)).sub 0 i)) 0))
          -∗ iprop(iprop(oHalf d (Fin.cast nCore_zero c) (outVal m d) ∗ bars d c) ∗ ownBufs (S d (coreOf c)))))
  rw [bigSep_sep' _ (fun i : Fin ((K (F := F)).nSub 0) => oTd m d (Fin.cast nCore_zero c) (Fin.cast nSub_zero i)),
    bigSep_tasks (F := F) (fun i => iprop(argPts m d (qTile (Fin.cast nCore_zero c) i) ∗ oGo m d (Fin.cast nCore_zero c) i ∗ ∃ f, shPts d (coreOf c) i f)),
    bigSep_tasks (F := F) (fun i => oTd m d (Fin.cast nCore_zero c) i),
    bigSep_sep' _ (fun i : Fin 16 => argPts m d (qTile (Fin.cast nCore_zero c) i)), bigSep_sep' _ (fun i : Fin 16 => oGo m d (Fin.cast nCore_zero c) i), oGo_all, ownBufs_S]
  iintro ⟨⟨Hargs, Ho⟩, Hsh, Hrest⟩; imodintro
  isplitl [Hargs Ho Hsh]
  · isplitl [Hargs]
    · ihave H := (args_deal m d (qCore (Fin.cast nCore_zero c)) 16) $$ Hargs
      icases H with ⟨-, H⟩
      iexact H
    isplitl [Ho]; · iexact Ho
    iapply (sh_deal d (coreOf c)); iexact Hsh
  iintro ⟨Htd, Hbars⟩
  ihave H := (oTd_all m d (Fin.cast nCore_zero c)) $$ Htd
  icases H with ⟨Ho, Hsh⟩
  isplitl [Ho Hbars]
  · isplitl [Ho]; · iexact Ho
    iexact Hbars
  isplitl [Hsh]; · iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2
def bCells : Finset (GSem nD τ sig) := (Finset.univ : Finset DCI).image bcell₃
/-- Tile `i`'s token in tile `j`'s cell, for every pair of tiles of a core. -/
def bToks : Finset (GSem nD τ sig × ℕ × ℕ) :=
  ((Finset.univ : Finset DCI) ×ˢ Finset.univ).image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp (MF F)) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem sems_b : ((K (F := F)).freeOn (· ∈ bCells) : sProp (MF F)) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : sProp (MF F))) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (Finset.mem_univ dci)⟩)

theorem invs_b : iprop((bigSep bCells fun g => (semVal g 0 : sProp (MF F))) ∗ bigSep bCells fun g => roundState EB (bRd m) g 0)
    ⊢ |={Set.univ}=> iprop(∃ κ : GSem nD τ sig → ℕ, bigSep bCells fun g => cellInv EB (bRd m) (κ g) g) := by
  refine (Rounds.bodies_intro EB (bRd m) bCells).trans ((inv_alloc_family bCells (Rounds.body EB (bRd m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.univ_eq_empty, Finset.sum_empty, tallyAt_zero]
  | n + 1 => by rw [Fin.sum_univ_castSucc, sum_tallyAt_one g ι n, tallyAt_add]

theorem creds_b : ((P m).oxCred : sProp (MF F)) ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P m).oxFrom 0 thr) : sProp (MF F)))]
  refine sep_elim_right.trans (sep_elim_right.trans ?_)
  rw [bigSep_univ_prod, bigSep_univ_prod (fun dci : DCI => (cred (tallyAt (bcell₃ dci) (some 0) (grid0.bound 1)) : sProp (MF F)))]
  refine bigSep_mono fun d _ => ?_
  rw [bigSep_univ_prod, bigSep_univ_prod (fun ci : Fin τ.nSC × Fin τ.nSub => (cred (tallyAt (bcell₃ (d, ci)) (some 0) (grid0.bound 1)) : sProp (MF F)))]
  refine bigSep_mono fun c _ => ?_
  dsimp only
  have hox : ∀ i, (P m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem bigSep_mono_frame {I : Type} [DecidableEq I] {R : sProp (MF F)} [BI.Persistent R] {s : Finset I} {Φ Ψ : I → sProp (MF F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp (MF F)))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P m).x q (SparseCore.T d)) = iprop(emp) :=
  bigSep_univ_of_subsingleton (0 : Fin 1)
theorem Px_S (d : Dev nD) (c : Fin τ.nSC) : (bigSep Finset.univ fun q : Fin 1 => (P m).x q (S d c)) = iprop(emp) :=
  bigSep_univ_of_subsingleton (0 : Fin 1)
theorem Px_V (d : Dev nD) (c : Fin τ.nSC) (i : Fin τ.nSub) :
    (bigSep Finset.univ fun q : Fin 1 => (P m).x q (V d c i)) = bkit m d c i :=
  bigSep_univ_of_subsingleton (0 : Fin 1)

omit [FloatOps F] in
theorem bCells_eq (Φ : GSem nD τ sig → sProp (MF F)) : bigSep bCells Φ = bigSep Finset.univ fun x : DCI => Φ (bcell₃ x) := by
  unfold bCells; exact SparseCore.bigSep_image_of_injOn (fun a _ b _ e => bcell₃_injective e) Φ

abbrev shared : sProp (MF F) :=
  iprop((∃ κ : GSem nD τ sig → ℕ, bigSep Finset.univ fun x : DCI => cellInv EB (bRd m) (κ (bcell₃ x)) (bcell₃ x))
    ∗ bigSep Finset.univ fun x : DCI => reached EB (bcell₃ x) 0)
abbrev mine (dci : DCI) : sProp (MF F) :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

theorem kit_intro (dci : DCI) : iprop(shared m ∗ mine dci) ⊢ (bkit m dci.1 dci.2.1 dci.2.2 : sProp (MF F)) := by
  obtain ⟨d, c, i⟩ := dci
  iintro ⟨⟨#Hinv, #Hr⟩, Hat, Htok, Hcred⟩
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd m) (κ (bcell₃ x)) (bcell₃ x)) fun j _ =>
        sep_elim_left.trans (bigSep_elim (Φ := fun x : DCI => (cellInv EB (bRd m) (κ (bcell₃ x)) (bcell₃ x) : sProp (MF F)))
          (Finset.mem_univ ((d, c, Fin.castLE hsub0 j) : DCI)))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp (MF F))) (Finset.mem_univ ((d, c, Fin.castLE hsub0 j) : DCI)))))
    isplitl; · iexact Hr
    rw [bigSep_emp']; iempintro
  isplitl [Hat]; · iexact Hat
  iexact Hcred

theorem kits_deal :
    iprop(shared m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P m).x q thr : sProp (MF F)) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (s := (Finset.univ : Finset DCI)) (R := shared m) (Φ := mine (F := F)) fun dci _ => kit_intro m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp (MF F)) := by
  unfold u₀
  iintro ⟨Hu, Hcred, Hfree⟩
  ihave H := (ownU_split _ _) $$ Hu
  icases H with ⟨HH, HB⟩
  imod (Rounds.fund EB (bRd m) bCells bToks) $$ HB with ⟨Hst, #Hr, Hat, Htok⟩
  ihave Hsems := (sems_b (F := F)) $$ Hfree
  imod (invs_b m) $$ [Hsems Hst] with ⟨%κ, #Hinv⟩
  · isplitl [Hsems] <;> iassumption
  ihave Hcred' := (creds_b m) $$ Hcred
  ihave Hinv' := (Entails.of_eq (bCells_eq (F := F) fun g => cellInv EB (bRd m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## The call on the TensorCore -/

omit [FloatOps F] in
theorem unscopedBufs_eq (d : Dev nD) (W : (b : Ref sig .tc) → Buf (Elt F) ((d.tc : Thread nD τ).loc b)) :
    (unscopedBufs d W : sProp (MF F)) = iprop((aLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
theorem o_disjoint : ∀ i ∈ (Finset.univ : Finset (Fin 2)), ∀ j ∈ (Finset.univ : Finset (Fin 2)), i ≠ j → Disjoint (oSet i) (oSet j) :=
  fun i _ j _ h => Rect.part_disjoint hdivO h
omit [FloatOps F] in
theorem o_cover : (Finset.univ : Finset (Fin 2)).biUnion oSet = Finset.univ := Rect.biUnion_part hdivO
omit [FloatOps F] in
theorem o_halves (d : Dev nD) (f : Buf (Elt F) (oLoc d)) :
    (oLoc d ↦{fullShare} f : sProp (MF F)) = bigSep Finset.univ fun c : Fin 2 => oHalf d c f := by
  unfold oHalf
  rw [← pointsTo_biUnion Finset.univ (ℓ := oLoc d) oSet o_disjoint, o_cover]; try rfl

theorem st0_intro (d : Dev nD) : iprop(argPts m d fullShare ∗ oLoc d ↦{fullShare} m (oLoc d))
    ⊢ (iprop(argPts m d qKeep ∗ bigSep Finset.univ fun c : Fin ((K (F := F)).nCore 0) => (P m).st 0 d c) : sProp (MF F)) := by
  show _ ⊢ iprop(argPts m d qKeep ∗ bigSep Finset.univ fun c : Fin ((K (F := F)).nCore 0) => iprop(argPts m d (qCore (Fin.cast nCore_zero c)) ∗ oHalf d (Fin.cast nCore_zero c) (m (oLoc d))))
  rw [bigSep_cores (F := F) (fun c => iprop(argPts m d (qCore c) ∗ oHalf d c (m (oLoc d)))), bigSep_sep', o_halves]
  iintro ⟨Ha, Ho⟩
  ihave Ha' := (args_deal m d fullShare 2) $$ Ha
  icases Ha' with ⟨H0, H1⟩
  isplitl [H0]; · iexact H0
  isplitl [H1]; · iexact H1
  iexact Ho

abbrev allBars (d : Dev nD) : sProp (MF F) := bigSep Finset.univ fun c : Fin ((K (F := F)).nCore 0) => bars d c

theorem dn0_eq (d : Dev nD) : (bigSep Finset.univ fun c : Fin ((K (F := F)).nCore 0) => (P m).dn 0 d c)
    = (iprop((oLoc d ↦{fullShare} outVal m d) ∗ allBars d) : sProp (MF F)) := by
  show (bigSep Finset.univ fun c : Fin ((K (F := F)).nCore 0) => iprop(oHalf d (Fin.cast nCore_zero c) (outVal m d) ∗ bars d c)) = _
  rw [bigSep_sep', bigSep_cores (F := F) (fun c => oHalf d c (outVal m d)), ← o_halves]

abbrev FIN (d : Dev nD) : sProp (MF F) := iprop(argPts m d qKeep ∗ (oLoc d ↦{fullShare} outVal m d) ∗ allBars d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ht, Ho⟩, Hts, -⟩, -⟩
  ihave H0 := (st0_intro m d) $$ [Ha Ht Ho]
  · isplitr [Ho]; swap; · iexact Ho
    isplitl [Ha]; · iexact Ha
    iexact Ht
  icases H0 with ⟨Hkeep, Hgive⟩
  iapply ((K (F := F)).wp_run (D (F := F)) 𝒱 (EH := EH) (P := P m) κ d 0) $$ [Hst Hgive Hkeep Hb Hts]
  isplitr; · iexact Hctx
  isplitl [Hst]; · iexact Hst
  isplitl [Hgive]; · iexact Hgive
  iintro ⟨Hst, Hdn⟩
  ihave Hdn' := (Entails.of_eq (dn0_eq m d)) $$ Hdn
  icases Hdn' with ⟨Ho, Hbars⟩
  imodintro
  isplitl [Hst]; · iexact Hst
  isplitr [Hb Hts]
  · isplitl [Hkeep]; · iexact Hkeep
    isplitl [Ho] <;> iassumption
  isplitl [Hb] <;> iassumption

def fq (d : Dev nD) (s' : Phys nD τ sig (Elt F)) : Prop :=
  (s'.mem.mem (aLoc d) = m (aLoc d) ∧ s'.mem.mem (tLoc d) = m (tLoc d) ∧ s'.mem.mem (oLoc d) = outVal m d)
    ∧ ∀ (c : Fin ((K (F := F)).nCore 0)) (i : Fin ((K (F := F)).nSub 0)), s'.mem.sem (bcell d (coreOf (F := F) c) ((K (F := F)).sub 0 i)) = 0

omit [FloatOps F] in
theorem hfin_at (ℓ : Loc nD τ sig) (q : PosShare TreeShare) (f : Buf (Elt F) ℓ) (s' : Phys nD τ sig (Elt F)) : iprop((ℓ ↦{q} f) ∗ SI s') ⊢ (⌜s'.mem.mem ℓ = f⌝ : sProp (MF F)) := by
  iintro ⟨Hx, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp (MF F)) :=
  fun x hx => ⟨⟨((sep_mono_left (sep_elim_left.trans sep_elim_left)).trans (hfin_at _ _ _ s')) x hx,
      ((sep_mono_left (sep_elim_left.trans sep_elim_right)).trans (hfin_at _ _ _ s')) x hx,
      ((sep_mono_left (sep_elim_right.trans sep_elim_left)).trans (hfin_at _ _ _ s')) x hx⟩, fun c i =>
    ((sep_mono_left (sep_elim_right.trans (sep_elim_right.trans ((SparseCore.ent (bigSep_elim (Finset.mem_univ c))).trans (SparseCore.ent (bigSep_elim (Finset.mem_univ i))))))).trans
      (SparseCore.Cfg.semVal_zero_read _ s')) x hx⟩

theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-! ## The run -/

/-- The arguments as they were, the result at what the tasks compute, every counter at zero. -/
def QC : PUnit × MemSt nD τ sig (Elt F) → Prop := fun r =>
  (∀ c : Dev nD, r.2.mem (aLoc c) = m (aLoc c) ∧ r.2.mem (tLoc c) = m (tLoc c) ∧ r.2.mem (oLoc c) = outVal m c) ∧ r.2.sem = fun _ => 0

theorem run_main [∀ e, Nonempty (Elt F e)] : θ_run (Cert.ScKernelIdeal.defs (F := F)) (Cert.ScKernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m facts)
    (fun q _ => match q with | 0 => vecSplit m)
    m ρ main (fun _ => iprop(emp)) (FIN m) (u₀ (F := F)) (hu₀ m) (hmain m ρ) (fq m) (hfin m) (QC m) (fun _ h hz => ⟨fun c => (h c).1, hz⟩)

end Cert.ScKernelIdeal.Sc

end
-- ==== Proof.Words.lean ====
/- SUMS OF PIXEL WORDS, split as the SparseCore's tasks split them: an image into four bands of 128 rows, a band into eight
   chunks of sixteen rows, a chunk into 128 strips of sixty-four pixels, a strip into four groups of sixteen. Nothing here
   names a program. -/
module

public import proofs.«01_k».proof.Proof.Fold
public import proofs.«01_k».proof.Proof.Pixel

@[expose] public section

noncomputable section

namespace Cert.Iou

open Idealize.ShloMosaic hiding ix2 ix3 ix4
open Idealize.ShloMosaic.ValueIdx

/-! ## Splitting a sum -/

/-- A sum over `m * k` places, `k` at a time. -/
theorem sum_split {M : Type*} [AddCommMonoid M] (m k : ℕ) {N : ℕ} (h : N = m * k) (f : ℕ → M) :
    ∑ r : Fin N, f r.val = ∑ n : Fin m, ∑ a : Fin k, f (k * n.val + a.val) := sum_rows h fun r => f r.val

/-- A chunk, strip by strip and group by group. -/
theorem sum_chunk {M : Type*} [AddCommMonoid M] (W : ℕ → ℕ → M) :
    ∑ t : Fin 128, ∑ g : Fin 4, ∑ l : Fin 16, W (t.val / 8) (t.val % 8 * 64 + 16 * g.val + l.val)
      = ∑ r : Fin 16, ∑ c : Fin 512, W r.val c.val := by
  rw [sum_split 16 8 (by norm_num) fun t => ∑ g : Fin 4, ∑ l : Fin 16, W (t / 8) (t % 8 * 64 + 16 * g.val + l.val)]
  refine Finset.sum_congr rfl fun r _ => ?_
  rw [sum_split 8 64 (by norm_num) fun c => W r.val c]
  refine Finset.sum_congr rfl fun n _ => ?_
  rw [sum_split 4 16 (by norm_num) fun a => W r.val (64 * n.val + a)]
  have hn := n.isLt
  have e1 : (8 * r.val + n.val) / 8 = r.val := by omega
  have e2 : (8 * r.val + n.val) % 8 = n.val := by omega
  rw [e1, e2]
  refine Finset.sum_congr rfl fun g _ => Finset.sum_congr rfl fun l _ => congrArg (W r.val) ?_
  ring

/-- A band, chunk by chunk. -/
theorem sum_band {M : Type*} [AddCommMonoid M] (R : ℕ → M) : ∑ r : Fin 8, ∑ a : Fin 16, R (16 * r.val + a.val) = ∑ r : Fin 128, R r.val :=
  (sum_split 8 16 (by norm_num) R).symm

/-- An image, band by band. -/
theorem sum_image {M : Type*} [AddCommMonoid M] (R : ℕ → M) : ∑ h : Fin 4, ∑ r : Fin 128, R (128 * h.val + r.val) = ∑ r : Fin 512, R r.val :=
  (sum_split 4 128 (by norm_num) R).symm

/-! ## The three words of a pixel -/

/-- "Predicted", "labelled", and both. -/
def wP (P : Scores.Idx → EReal) (b : Fin 16) (r c : Fin 512) : BitVec 32 := posW (P (ix4 b 0 r c)) (P (ix4 b 1 r c))
def wL (T : Labels.Idx → BitVec 32) (b : Fin 16) (r c : Fin 512) : BitVec 32 := T (ix3 b r c)
def wI (P : Scores.Idx → EReal) (T : Labels.Idx → BitVec 32) (b : Fin 16) (r c : Fin 512) : BitVec 32 := wP P b r c &&& wL T b r c

/-- Words over rows and columns given as naturals. -/
abbrev at' (w : Fin 512 → Fin 512 → BitVec 32) (r c : ℕ) : BitVec 32 := w (Fin.ofNat 512 r) (Fin.ofNat 512 c)

/-- The sum of band `h`'s words. -/
def bandW (w : Fin 512 → Fin 512 → BitVec 32) (h : ℕ) : BitVec 32 := ∑ r : Fin 128, ∑ c : Fin 512, at' w (128 * h + r.val) c.val
/-- The same as a natural. -/
def bandN (w : Fin 512 → Fin 512 → BitVec 32) (h : ℕ) : ℕ := ∑ r : Fin 128, ∑ c : Fin 512, (at' w (128 * h + r.val) c.val).toNat

/-- A band of words at most one sums to a word whose signed value is the count. -/
theorem bandW_toInt (w : Fin 512 → Fin 512 → BitVec 32) (hw : ∀ r c, (w r c).toNat ≤ 1) (h : ℕ) : (bandW w h).toInt = (bandN w h : ℤ) := by
  have hb : bandN w h ≤ 128 * 512 := sum_sum_le _ fun r c => hw _ _
  have hn : (bandW w h).toNat = bandN w h := by
    unfold bandW bandN at *
    rw [← Fintype.sum_prod_type', ← Fintype.sum_prod_type'] at *
    exact WordSum.toNat_sum _ _ (lt_of_le_of_lt hb (by norm_num))
  rw [toInt_of_toNat (by rw [hn]; omega), hn]

/-- The four bands' counts add up to the image's. -/
theorem bands_count (w : Fin 512 → Fin 512 → BitVec 32) : ∑ h : Fin 4, bandN w h.val = ∑ r : Fin 512, ∑ c : Fin 512, (w r c).toNat := by
  unfold bandN
  rw [sum_image fun r => ∑ c : Fin 512, (at' w r c.val).toNat]
  refine Finset.sum_congr rfl fun r _ => Finset.sum_congr rfl fun c _ => ?_
  show (w (Fin.ofNat 512 r.val) (Fin.ofNat 512 c.val)).toNat = _
  rw [show Fin.ofNat 512 r.val = r from Fin.ext (Nat.mod_eq_of_lt r.isLt), show Fin.ofNat 512 c.val = c from Fin.ext (Nat.mod_eq_of_lt c.isLt)]

/-- What task `s` reports in lane `l`: its band's count in its image's lane, zero elsewhere. `w` is the words of the core's
    image `k`. -/
def cell (w : ℕ → Fin 512 → Fin 512 → BitVec 32) (s l : ℕ) : ℕ := if l = s / 4 then bandN (w (s / 4)) (s % 4) else 0

/-- The sixteen reports added up: the count of image `l` for a lane below four, zero above. -/
theorem cells_count (w : ℕ → Fin 512 → Fin 512 → BitVec 32) (l : ℕ) :
    ∑ s : Fin 16, cell w s.val l = if l < 4 then ∑ r : Fin 512, ∑ c : Fin 512, (w l r c).toNat else 0 := by
  rw [sum_split 4 4 (by norm_num) fun s => cell w s l, ← bands_count]
  have e : ∀ n a : Fin 4, cell w (4 * n.val + a.val) l = if l = n.val then bandN (w n.val) a.val else 0 := fun n a => by
    have ha := a.isLt
    unfold cell
    rw [show (4 * n.val + a.val) / 4 = n.val by omega, show (4 * n.val + a.val) % 4 = a.val by omega]
  simp only [e]
  split
  · rename_i h
    rw [Finset.sum_eq_single (⟨l, h⟩ : Fin 4)]
    · exact Finset.sum_congr rfl fun a _ => if_pos rfl
    · intro n _ hn
      exact Finset.sum_eq_zero fun a _ => if_neg fun e => hn (Fin.ext e.symm)
    · intro h; exact absurd (Finset.mem_univ _) h
  · rename_i h
    exact Finset.sum_eq_zero fun n _ => Finset.sum_eq_zero fun a _ => if_neg fun e : l = n.val => h (e ▸ n.isLt)

/-! ## Naturals in the extended reals -/

theorem nat_add (a b : ℕ) : nat a + nat b = nat (a + b) := by
  unfold nat; rw [← EReal.coe_add]; push_cast; rfl

theorem nat_zero : nat 0 = 0 := by unfold nat; simp

/-- The SparseCore's quotient of the three counts. -/
theorem vec_quot (i p l : ℕ) (I P L : Ideal .f32) (hI : I = nat i) (hP : P = nat p) (hL : L = nat l) :
    Scalar.select (FloatOps.cmpf (F := Ideal) (φ := .f32) .ogt (FloatOps.subf (FloatOps.addf P L) I) zeroW)
        (FloatOps.divf I (Scalar.select (FloatOps.cmpf (F := Ideal) (φ := .f32) .ogt (FloatOps.subf (FloatOps.addf P L) I) zeroW)
            (FloatOps.subf (FloatOps.addf P L) I) oneW)) zeroW
      = (iou i p l : Ideal .f32) := by
  subst hI hP hL
  rw [zeroW_eq]
  show Scalar.select (BitVec.ofBool (decide ((0 : EReal) < nat p + nat l - nat i)))
    (Ideal.div (nat i) (Scalar.select (BitVec.ofBool (decide ((0 : EReal) < nat p + nat l - nat i))) (nat p + nat l - nat i) _)) (0 : EReal) = _
  unfold iou
  by_cases h : 0 < nat p + nat l - nat i
  · rw [if_pos h, decide_eq_true h]; rfl
  · rw [if_neg h, decide_eq_false h]; rfl

/-- The sixteen words of the SparseCore call's result: the quotients of images 0 to 3, four zeros, those of images 4 to 7, four
    zeros. -/
def padded (P : Scores.Idx → EReal) (T : Labels.Idx → BitVec 32) (k : ℕ) : EReal :=
  if k % 8 < 4 then iou (nI P T (Fin.ofNat 16 (4 * (k / 8) + k % 8))) (nP P (Fin.ofNat 16 (4 * (k / 8) + k % 8))) (nL T (Fin.ofNat 16 (4 * (k / 8) + k % 8)))
  else 0

theorem iou_zero : iou 0 0 0 = 0 := by
  unfold iou
  rw [if_neg]
  rw [nat_zero]; simp

end Cert.Iou

end
-- ==== Proof.ScSum.lean ====
/- WHAT A TASK COUNTS, at the extended reals: its lanes added up are the sums of its band's pixel words, and its report's
   three rows hold the band's three counts in its image's lane. -/
module

public import proofs.«01_k».proof.Proof.ScCells
public import proofs.«01_k».proof.Proof.Words
public import Idealize.ShloMosaic.Lib.Pipeline.Value
public import Idealize.ShloMosaic.Lib.ValueLayout

@[expose] public section

noncomputable section

namespace Cert.ScKernelIdeal.Sc

open Cert.ScKernelIdeal Cert.ScKernelIdeal.Gen Cert.Iou
open Idealize.ShloMosaic hiding ix1 ix2 ix3 ix4
open Idealize.ShloMosaic.ValueIdx
open Idealize.ShloMosaic.SparseCore (S V T)

/-! ## Offsets -/

theorem trips_eq : k0_t1_loop.trips = 128 := by decide +kernel

theorem off4_eq : ∀ (t : Fin k0_t1_loop.trips) (g : Fin 4), k0_off4 t (BitVec.ofNat 32 (16 * g.val)) 0 = t.val / 8
    ∧ k0_off4 t (BitVec.ofNat 32 (16 * g.val)) 1 = t.val % 8 * 64 + 16 * g.val := by decide +kernel

/-- The image of a task, of the core's four, and its band. -/
abbrev imgOf (i : grid0.Coords) : ℕ := 4 * (i 0).val + (i 1).val / 4
abbrev bandOf (i : grid0.Coords) : ℕ := (i 1).val % 4

theorem off1_all : ∀ (c : Fin 2) (s : Fin 16) (r : Fin 8), k0_off1 (coordsV c s) (BitVec.ofNat 32 (16 * r.val)) 0 = 4 * c.val + s.val / 4
    ∧ k0_off1 (coordsV c s) (BitVec.ofNat 32 (16 * r.val)) 1 = 0 ∧ k0_off1 (coordsV c s) (BitVec.ofNat 32 (16 * r.val)) 2 = 128 * (s.val % 4) + 16 * r.val
    ∧ k0_off1 (coordsV c s) (BitVec.ofNat 32 (16 * r.val)) 3 = 0 := by decide +kernel
theorem off2_all : ∀ (c : Fin 2) (s : Fin 16) (r : Fin 8), k0_off2 (coordsV c s) (BitVec.ofNat 32 (16 * r.val)) 0 = 4 * c.val + s.val / 4
    ∧ k0_off2 (coordsV c s) (BitVec.ofNat 32 (16 * r.val)) 1 = 1 ∧ k0_off2 (coordsV c s) (BitVec.ofNat 32 (16 * r.val)) 2 = 128 * (s.val % 4) + 16 * r.val
    ∧ k0_off2 (coordsV c s) (BitVec.ofNat 32 (16 * r.val)) 3 = 0 := by decide +kernel
theorem off3_all : ∀ (c : Fin 2) (s : Fin 16) (r : Fin 8), k0_off3 (coordsV c s) (BitVec.ofNat 32 (16 * r.val)) 0 = 4 * c.val + s.val / 4
    ∧ k0_off3 (coordsV c s) (BitVec.ofNat 32 (16 * r.val)) 1 = 128 * (s.val % 4) + 16 * r.val
    ∧ k0_off3 (coordsV c s) (BitVec.ofNat 32 (16 * r.val)) 2 = 0 := by decide +kernel

/-! ## A chunk's words -/

section Reads

variable (d : Dev nD) (c : Fin 2) (s : Fin 16) (r : Fin 8) (a : Fin 16) (k : Fin 512)

theorem row_lt : 128 * (s.val % 4) + (16 * r.val + a.val) < 512 := by have := r.isLt; have := a.isLt; omega
theorem img_lt : 4 * c.val + s.val / 4 < 16 := by have := c.isLt; have := s.isLt; omega

/-- A chunk read off the arrays. -/
theorem readA (fa : Buf (Elt Ideal) (aV.view.loc (V d (cV (coordsV c s)) (jV (coordsV c s))))) :
    (srcA (coordsV c s) r).view.read (Elt Ideal) fa (ix2 a k)
      = (fa : Scores.Idx → EReal) (ix4 (Fin.ofNat 16 (4 * c.val + s.val / 4)) 0 (Fin.ofNat 512 (128 * (s.val % 4) + (16 * r.val + a.val))) (Fin.ofNat 512 k.val)) := by
  obtain ⟨h0, h1, h2, h3⟩ := off1_all c s r
  refine congrArg (fa : Scores.Idx → EReal) (funext fun b => Fin.ext ?_)
  show (k0_off1 (coordsV c s) (BitVec.ofNat 32 (16 * r.val))) b + 1 * (Shape.reshapeEquiv squeezes_S1x1x16x512_S16x512.numel_eq (ix2 a k) b).val = _
  rw [reshapeEquiv_ix2_11ab]
  have hr := row_lt s r a
  have hi := img_lt c s
  match b with
  | ⟨0, _⟩ => show k0_off1 _ _ 0 + 1 * 0 = (4 * c.val + s.val / 4) % 16; rw [h0]; omega
  | ⟨1, _⟩ => show k0_off1 _ _ 1 + 1 * 0 = 0; rw [h1]
  | ⟨2, _⟩ => show k0_off1 _ _ 2 + 1 * a.val = (128 * (s.val % 4) + (16 * r.val + a.val)) % 512; rw [h2]; omega
  | ⟨3, _⟩ => show k0_off1 _ _ 3 + 1 * k.val = k.val % 512; rw [h3]; omega

theorem readB (fa : Buf (Elt Ideal) (aV.view.loc (V d (cV (coordsV c s)) (jV (coordsV c s))))) :
    (srcB (coordsV c s) r).view.read (Elt Ideal) fa (ix2 a k)
      = (fa : Scores.Idx → EReal) (ix4 (Fin.ofNat 16 (4 * c.val + s.val / 4)) 1 (Fin.ofNat 512 (128 * (s.val % 4) + (16 * r.val + a.val))) (Fin.ofNat 512 k.val)) := by
  obtain ⟨h0, h1, h2, h3⟩ := off2_all c s r
  refine congrArg (fa : Scores.Idx → EReal) (funext fun b => Fin.ext ?_)
  show (k0_off2 (coordsV c s) (BitVec.ofNat 32 (16 * r.val))) b + 1 * (Shape.reshapeEquiv squeezes_S1x1x16x512_S16x512.numel_eq (ix2 a k) b).val = _
  rw [reshapeEquiv_ix2_11ab]
  have hr := row_lt s r a
  have hi := img_lt c s
  match b with
  | ⟨0, _⟩ => show k0_off2 _ _ 0 + 1 * 0 = (4 * c.val + s.val / 4) % 16; rw [h0]; omega
  | ⟨1, _⟩ => show k0_off2 _ _ 1 + 1 * 0 = 1; rw [h1]
  | ⟨2, _⟩ => show k0_off2 _ _ 2 + 1 * a.val = (128 * (s.val % 4) + (16 * r.val + a.val)) % 512; rw [h2]; omega
  | ⟨3, _⟩ => show k0_off2 _ _ 3 + 1 * k.val = k.val % 512; rw [h3]; omega

theorem readT (ft : Buf (Elt Ideal) (tV.view.loc (V d (cV (coordsV c s)) (jV (coordsV c s))))) :
    (srcT (coordsV c s) r).view.read (Elt Ideal) ft (ix2 a k)
      = (ft : Iou.Labels.Idx → BitVec 32) (ix3 (Fin.ofNat 16 (4 * c.val + s.val / 4)) (Fin.ofNat 512 (128 * (s.val % 4) + (16 * r.val + a.val))) (Fin.ofNat 512 k.val)) := by
  obtain ⟨h0, h1, h2⟩ := off3_all c s r
  refine congrArg (ft : Iou.Labels.Idx → BitVec 32) (funext fun b => Fin.ext ?_)
  show (k0_off3 (coordsV c s) (BitVec.ofNat 32 (16 * r.val))) b + 1 * (Shape.reshapeEquiv squeezes_S1x16x512_S16x512.numel_eq (ix2 a k) b).val = _
  rw [reshapeEquiv_ix2_1ab]
  have hr := row_lt s r a
  have hi := img_lt c s
  match b with
  | ⟨0, _⟩ => show k0_off3 _ _ 0 + 1 * 0 = (4 * c.val + s.val / 4) % 16; rw [h0]; omega
  | ⟨1, _⟩ => show k0_off3 _ _ 1 + 1 * a.val = (128 * (s.val % 4) + (16 * r.val + a.val)) % 512; rw [h1]; omega
  | ⟨2, _⟩ => show k0_off3 _ _ 2 + 1 * k.val = k.val % 512; rw [h2]; omega

end Reads

/-! ## A trip -/

/-- Four lanes' vectors added up, over all lanes. -/
def tot (x0 x1 x2 x3 : IVec S16 32) : BitVec 32 := ∑ j : Fin 16, (x0 (ix1 j) + x1 (ix1 j) + x2 (ix1 j) + x3 (ix1 j))
def totI (x : Acc) : BitVec 32 := tot x.1 x.2.1 x.2.2.1 x.2.2.2.1
def totP (x : Acc) : BitVec 32 := tot x.2.2.2.2.1 x.2.2.2.2.2.1 x.2.2.2.2.2.2.1 x.2.2.2.2.2.2.2.1
def totL (x : Acc) : BitVec 32 := tot x.2.2.2.2.2.2.2.2.1 x.2.2.2.2.2.2.2.2.2.1 x.2.2.2.2.2.2.2.2.2.2.1 x.2.2.2.2.2.2.2.2.2.2.2

/-- Vectors added to by `w 0`, …, `w 3`. -/
theorem tot_add (x0 x1 x2 x3 y0 y1 y2 y3 : IVec S16 32) (w : Fin 4 → Fin 16 → BitVec 32)
    (h0 : ∀ j, y0 (ix1 j) = x0 (ix1 j) + w 0 j) (h1 : ∀ j, y1 (ix1 j) = x1 (ix1 j) + w 1 j)
    (h2 : ∀ j, y2 (ix1 j) = x2 (ix1 j) + w 2 j) (h3 : ∀ j, y3 (ix1 j) = x3 (ix1 j) + w 3 j) :
    tot y0 y1 y2 y3 = tot x0 x1 x2 x3 + ∑ g : Fin 4, ∑ j : Fin 16, w g j := by
  unfold tot
  rw [Fin.sum_univ_four, ← Finset.sum_add_distrib, ← Finset.sum_add_distrib, ← Finset.sum_add_distrib, ← Finset.sum_add_distrib]
  refine Finset.sum_congr rfl fun j _ => ?_
  rw [h0, h1, h2, h3]
  abel

variable (A B : Vec Ideal S16x512 .f32) (L : Vec Ideal S16x512 .i32)

/-- A pixel of a chunk, by strip, group and lane. -/
def spot (t : Fin k0_t1_loop.trips) (g : Fin 4) (j : Fin 16) : S16x512.Idx := (grp t g).emb (ix2 0 j)

theorem pay4_apply (b a : Vec Ideal S1x16 .f32) (j : Fin 16) : k0_pay4 (F := Ideal) b a (ix1 j) = posW (a (ix2 0 j)) (b (ix2 0 j)) := by
  have e : ∀ v : Vec Ideal S1x16 .f32, shapeCast S16 v shapeCasts_S1x16_S16 (ix1 j) = v (ix2 0 j) := fun v => shapeCast_1a_a_apply v _ j
  show Scalar.select (FloatOps.cmpf (F := Ideal) (φ := .f32) .ogt (FloatOps.subf (shapeCast S16 b shapeCasts_S1x16_S16 (ix1 j)) (shapeCast S16 a shapeCasts_S1x16_S16 (ix1 j))) zeroW) 1#32 0#32 = _
  rw [e, e, zeroW_eq]
  show Scalar.select (BitVec.ofBool (decide ((0 : EReal) < (b (ix2 0 j) : EReal) - (a (ix2 0 j) : EReal)))) 1#32 0#32 = _
  unfold posW
  by_cases h : (0 : EReal) < (b (ix2 0 j) : EReal) - (a (ix2 0 j) : EReal)
  · rw [if_pos h, decide_eq_true h]; rfl
  · rw [if_neg h, decide_eq_false h]; rfl

theorem pay3_apply (l : Vec Ideal S1x16 .i32) (j : Fin 16) : k0_pay3 (F := Ideal) l (ix1 j) = l (ix2 0 j) := shapeCast_1a_a_apply l _ j

/-- The three words at a pixel of a chunk. -/
def wordP (q : S16x512.Idx) : BitVec 32 := posW (A q) (B q)
def wordL (q : S16x512.Idx) : BitVec 32 := L q
def wordI (q : S16x512.Idx) : BitVec 32 := wordP A B q &&& wordL L q

theorem stepI (t : Fin k0_t1_loop.trips) (x : Acc) : totI (stepAt A B L t x) = totI x + ∑ g : Fin 4, ∑ j : Fin 16, wordI A B L (spot t g j) := by
  obtain ⟨x0, x1, x2, x3, y0, y1, y2, y3, z0, z1, z2, z3⟩ := x
  refine tot_add _ _ _ _ _ _ _ _ _ ?_ ?_ ?_ ?_ <;> intro j
  all_goals
    refine congrArg (_ + ·) ?_
    show k0_pay4 (F := Ideal) _ _ (ix1 j) &&& k0_pay3 (F := Ideal) _ (ix1 j) = _
    rw [pay4_apply, pay3_apply]; rfl

theorem stepP (t : Fin k0_t1_loop.trips) (x : Acc) : totP (stepAt A B L t x) = totP x + ∑ g : Fin 4, ∑ j : Fin 16, wordP A B (spot t g j) := by
  obtain ⟨x0, x1, x2, x3, y0, y1, y2, y3, z0, z1, z2, z3⟩ := x
  refine tot_add _ _ _ _ _ _ _ _ _ ?_ ?_ ?_ ?_ <;> intro j
  all_goals
    refine congrArg (_ + ·) ?_
    show k0_pay4 (F := Ideal) _ _ (ix1 j) = _
    rw [pay4_apply]; rfl

theorem stepL (t : Fin k0_t1_loop.trips) (x : Acc) : totL (stepAt A B L t x) = totL x + ∑ g : Fin 4, ∑ j : Fin 16, wordL L (spot t g j) := by
  obtain ⟨x0, x1, x2, x3, y0, y1, y2, y3, z0, z1, z2, z3⟩ := x
  refine tot_add _ _ _ _ _ _ _ _ _ ?_ ?_ ?_ ?_ <;> intro j
  all_goals
    refine congrArg (_ + ·) ?_
    show k0_pay3 (F := Ideal) _ (ix1 j) = _
    rw [pay3_apply]; rfl

/-! ## A chunk -/

/-- The trips' words are the chunk's. -/
theorem spots (W : S16x512.Idx → BitVec 32) : ∑ t : Fin k0_t1_loop.trips, ∑ g : Fin 4, ∑ j : Fin 16, W (spot t g j) = ∑ r : Fin 16, ∑ k : Fin 512, W (ix2 r k) := by
  have e : ∀ t g j, W (spot t g j) = (fun r c : ℕ => W (ix2 (Fin.ofNat 16 r) (Fin.ofNat 512 c))) (t.val / 8) (t.val % 8 * 64 + 16 * g.val + j.val) := by
    intro t g j
    obtain ⟨h0, h1⟩ := off4_eq t g
    have ht : t.val < 128 := trips_eq ▸ t.isLt
    have hg := g.isLt; have hj := j.isLt
    refine congrArg W (funext fun b => Fin.ext ?_)
    match b with
    | ⟨0, _⟩ => show k0_off4 t (BitVec.ofNat 32 (16 * g.val)) 0 + 1 * 0 = t.val / 8 % 16; rw [h0]; omega
    | ⟨1, _⟩ => show k0_off4 t (BitVec.ofNat 32 (16 * g.val)) 1 + 1 * j.val = (t.val % 8 * 64 + 16 * g.val + j.val) % 512; rw [h1]; omega
  simp only [e]
  refine Eq.trans ?_ ((sum_chunk fun r c : ℕ => W (ix2 (Fin.ofNat 16 r) (Fin.ofNat 512 c))).trans ?_)
  · exact (finCongr trips_eq).sum_comp fun t : Fin 128 => ∑ g : Fin 4, ∑ l : Fin 16, (fun r c : ℕ => W (ix2 (Fin.ofNat 16 r) (Fin.ofNat 512 c))) (t.val / 8) (t.val % 8 * 64 + 16 * g.val + l.val)
  · refine Finset.sum_congr rfl fun r _ => Finset.sum_congr rfl fun k _ => congrArg W ?_
    exact congrArg₂ ix2 (Fin.ext (Nat.mod_eq_of_lt r.isLt)) (Fin.ext (Nat.mod_eq_of_lt k.isLt))

/-- A total every trip adds to, after a whole chunk. -/
theorem countsTo_total (f : Acc → BitVec 32) (W : S16x512.Idx → BitVec 32)
    (h : ∀ t x, f (stepAt A B L t x) = f x + ∑ g : Fin 4, ∑ j : Fin 16, W (spot t g j)) (x : Acc) :
    f (countsTo A B L x k0_t1_loop.trips) = f x + ∑ r : Fin 16, ∑ k : Fin 512, W (ix2 r k) := by
  have key : ∀ n, n ≤ k0_t1_loop.trips → f (countsTo A B L x n)
      = f x + ∑ t ∈ Finset.range n, if h : t < k0_t1_loop.trips then ∑ g : Fin 4, ∑ j : Fin 16, W (spot ⟨t, h⟩ g j) else 0 := by
    intro n hn
    induction n with
    | zero => rw [Finset.sum_range_zero, add_zero]; rfl
    | succ n ih =>
      have hlt : n < k0_t1_loop.trips := hn
      rw [Finset.sum_range_succ, ← add_assoc, ← ih (Nat.le_of_succ_le hn), dif_pos hlt, ← h, countsTo, dif_pos hlt]
  rw [key _ le_rfl, Finset.sum_range, ← spots]
  exact congrArg _ (Finset.sum_congr rfl fun t _ => dif_pos t.isLt)

end Cert.ScKernelIdeal.Sc

end
-- ==== Proof.ScRows.lean ====
/- A TASK'S REPORT AND THE CORE'S RATIOS, at the extended reals. -/
module

public import proofs.«01_k».proof.Proof.ScSum

@[expose] public section

noncomputable section

namespace Cert.ScKernelIdeal.Sc

open Cert.ScKernelIdeal Cert.ScKernelIdeal.Gen Cert.Iou
open Idealize.ShloMosaic hiding ix1 ix2 ix3 ix4
open Idealize.ShloMosaic.ValueIdx
open Idealize.ShloMosaic.SparseCore (S V T)

/-! ## A task's totals -/

section Totals

variable (d : Dev nD) (c : Fin 2) (s : Fin 16)
variable (fa : Buf (Elt Ideal) (aV.view.loc (V d (cV (coordsV c s)) (jV (coordsV c s)))))
  (ft : Buf (Elt Ideal) (tV.view.loc (V d (cV (coordsV c s)) (jV (coordsV c s)))))

/-- The image a task counts. -/
abbrev img (c : Fin 2) (k : ℕ) : Fin 16 := Fin.ofNat 16 (4 * c.val + k)

theorem chunkI (r : Fin 8) (x : Acc) : totI (chunkCounts d (coordsV c s) fa ft r x)
    = totI x + ∑ a : Fin 16, ∑ k : Fin 512, at' (wI fa ft (img c (s.val / 4))) (128 * (s.val % 4) + (16 * r.val + a.val)) k.val := by
  refine (countsTo_total _ _ _ totI _ (stepI _ _ _) x).trans (congrArg _ (Finset.sum_congr rfl fun a _ => Finset.sum_congr rfl fun k _ => ?_))
  unfold wordI wordP wordL
  rw [readA, readB, readT]; rfl

theorem chunkP (r : Fin 8) (x : Acc) : totP (chunkCounts d (coordsV c s) fa ft r x)
    = totP x + ∑ a : Fin 16, ∑ k : Fin 512, at' (wP fa (img c (s.val / 4))) (128 * (s.val % 4) + (16 * r.val + a.val)) k.val := by
  refine (countsTo_total _ _ _ totP _ (stepP _ _ _) x).trans (congrArg _ (Finset.sum_congr rfl fun a _ => Finset.sum_congr rfl fun k _ => ?_))
  unfold wordP
  rw [readA, readB]; rfl

theorem chunkL (r : Fin 8) (x : Acc) : totL (chunkCounts d (coordsV c s) fa ft r x)
    = totL x + ∑ a : Fin 16, ∑ k : Fin 512, at' (wL ft (img c (s.val / 4))) (128 * (s.val % 4) + (16 * r.val + a.val)) k.val := by
  refine (countsTo_total _ _ _ totL _ (stepL _ _ _) x).trans (congrArg _ (Finset.sum_congr rfl fun a _ => Finset.sum_congr rfl fun k _ => ?_))
  unfold wordL
  rw [readT]; rfl

theorem tot_zero : tot (k0_pay117) k0_pay117 k0_pay117 k0_pay117 = 0 := by
  unfold tot
  exact Finset.sum_eq_zero fun j _ => (by rfl : (0#32 + 0#32 + 0#32 + 0#32 : BitVec 32) = 0)

/-- Eight chunks' sums are the band's. -/
theorem eight (w : Fin 512 → Fin 512 → BitVec 32) (h : ℕ) (D : Fin 8 → BitVec 32)
    (hD : ∀ r, D r = ∑ a : Fin 16, ∑ k : Fin 512, at' w (128 * h + (16 * r.val + a.val)) k.val) :
    0 + D 0 + D 1 + D 2 + D 3 + D 4 + D 5 + D 6 + D 7 = bandW w h := by
  rw [zero_add, ← Fin.sum_univ_eight]
  simp only [hD]
  exact sum_band fun n => ∑ k : Fin 512, at' w (128 * h + n) k.val

theorem tallyI : totI (tally d (coordsV c s) fa ft) = bandW (wI fa ft (img c (s.val / 4))) (s.val % 4) := by
  unfold tally
  iterate 8 rw [chunkI]
  rw [show totI zeroAcc = 0 from tot_zero]
  exact eight _ _ (fun r => ∑ a : Fin 16, ∑ k : Fin 512, at' (wI fa ft (img c (s.val / 4))) (128 * (s.val % 4) + (16 * r.val + a.val)) k.val) fun _ => rfl

theorem tallyP : totP (tally d (coordsV c s) fa ft) = bandW (wP fa (img c (s.val / 4))) (s.val % 4) := by
  unfold tally
  iterate 8 rw [chunkP]
  rw [show totP zeroAcc = 0 from tot_zero]
  exact eight _ _ (fun r => ∑ a : Fin 16, ∑ k : Fin 512, at' (wP fa (img c (s.val / 4))) (128 * (s.val % 4) + (16 * r.val + a.val)) k.val) fun _ => rfl

theorem tallyL : totL (tally d (coordsV c s) fa ft) = bandW (wL ft (img c (s.val / 4))) (s.val % 4) := by
  unfold tally
  iterate 8 rw [chunkL]
  rw [show totL zeroAcc = 0 from tot_zero]
  exact eight _ _ (fun r => ∑ a : Fin 16, ∑ k : Fin 512, at' (wL ft (img c (s.val / 4))) (128 * (s.val % 4) + (16 * r.val + a.val)) k.val) fun _ => rfl

end Totals

/-! ## Rows -/

theorem foldl_sum {α : Type*} (f : α → BitVec 32) (l : List α) (a : BitVec 32) : l.foldl (fun r k => r + f k) a = a + (l.map f).sum := by
  induction l generalizing a with
  | nil => simp
  | cons b l ih => rw [List.foldl_cons, ih, List.map_cons, List.sum_cons, add_assoc]

/-- A lane of a vector. -/
def laneAt (v : IVec S16 32) (k : Fin 16) : BitVec 32 := v (Shape.ofLane (d := ![16]) k)

theorem laneAt_eq (v : IVec S16 32) (k : Fin 16) : laneAt v k = v (ix1 k) := congrArg v (by
  funext a
  match a with
  | ⟨0, _⟩ => rfl)

/-- A running sum's last lane is the sum. -/
theorem scan_last (v : IVec S16 32) (h : ∀ a, (![15] : Fin S16.rank → ℕ) a < S16.size a) :
    extractAt ![15] (scan .sum v) h = ∑ j : Fin 16, v (ix1 j) := by
  have hl : List.finRange 16 = 0 :: ((List.finRange 16).filter fun k => decide (0 < k.val ∧ k.val ≤ 15)) := by decide
  have hs : extractAt ![15] (scan .sum v) h
      = ((List.finRange 16).filter fun k => decide (0 < k.val ∧ k.val ≤ 15)).foldl (fun r k => r + laneAt v k) (laneAt v 0) := rfl
  rw [hs, foldl_sum (laneAt v), ← List.sum_cons, ← List.map_cons, ← hl, ← Fin.sum_univ_def]
  exact Finset.sum_congr rfl fun k _ => laneAt_eq v k

theorem mask_all : ∀ s l : Fin 16, k0_pay186 (BitVec.ofNat 32 s.val) (iota .scVector S16 32 [0] iota_S16_d0_w32_scVector) (ix1 l)
    = BitVec.ofBool (decide (l.val = s.val / 4)) := by decide +kernel

/-- A row of a report: a total's value in the image's lane, zero elsewhere. -/
theorem row_eq (s l : Fin 16) (S : BitVec 32) (n : ℕ) (hS : S.toInt = (n : ℤ)) :
    Scalar.select (k0_pay186 (BitVec.ofNat 32 s.val) (iota .scVector S16 32 [0] iota_S16_d0_w32_scVector) (ix1 l))
      (Scalar.sitofp (F := Ideal) .f32 (0#32 + S)) zeroW = nat (if l.val = s.val / 4 then n else 0) := by
  rw [mask_all, show (0#32 + S) = S from BitVec.zero_add S, Ideal.scalar_sitofp_def, hS]
  by_cases h : l.val = s.val / 4
  · rw [decide_eq_true h, if_pos h]; rfl
  · rw [decide_eq_false h, if_neg h, nat_zero]; exact zeroW_eq

variable (c : Fin 2) (s : Fin 16) (x : Acc) (l : Fin 16) (n : ℕ)

theorem rowI_apply (h : (totI x).toInt = (n : ℤ)) : rowI (F := Ideal) (coordsV c s) x (ix1 l) = nat (if l.val = s.val / 4 then n else 0) := by
  refine Eq.trans ?_ (row_eq s l (totI x) n h)
  unfold rowI k0_pay187 k0_pay184
  dsimp only
  rw [shapeCast_self, scan_last]; rfl

theorem rowP_apply (h : (totP x).toInt = (n : ℤ)) : rowP (F := Ideal) (coordsV c s) x (ix1 l) = nat (if l.val = s.val / 4 then n else 0) := by
  refine Eq.trans ?_ (row_eq s l (totP x) n h)
  unfold rowP k0_pay188 k0_pay182
  dsimp only
  rw [shapeCast_self, scan_last]; rfl

theorem rowL_apply (h : (totL x).toInt = (n : ℤ)) : rowL (F := Ideal) (coordsV c s) x (ix1 l) = nat (if l.val = s.val / 4 then n else 0) := by
  refine Eq.trans ?_ (row_eq s l (totL x) n h)
  unfold rowL k0_pay1 k0_pay189 k0_pay183
  dsimp only
  rw [shapeCast_self, scan_last]; rfl

/-- An element of a report, by row. -/
theorem reportVec_L (i : grid0.Coords) (y : S48.Idx) (h : (y 0).val = 32 + l.val) : reportVec (F := Ideal) i x y = rowL (F := Ideal) i x (ix1 l) := by
  have hl := l.isLt
  unfold reportVec
  rw [dif_pos (fun a => by
    match a with
    | ⟨0, _⟩ => exact ⟨show 32 ≤ (y 0).val by omega, show (y 0).val < 32 + 16 by omega⟩)]
  refine congrArg _ (funext fun a => Fin.ext ?_)
  match a with
  | ⟨0, _⟩ => show (y 0).val - 32 = l.val; omega

theorem reportVec_P (i : grid0.Coords) (y : S48.Idx) (h : (y 0).val = 16 + l.val) : reportVec (F := Ideal) i x y = rowP (F := Ideal) i x (ix1 l) := by
  have hl := l.isLt
  unfold reportVec
  rw [dif_neg (fun hh => by have := (hh 0).1; have : 32 ≤ (y 0).val := this; omega), dif_pos (fun a => by
    match a with
    | ⟨0, _⟩ => exact ⟨show 16 ≤ (y 0).val by omega, show (y 0).val < 16 + 16 by omega⟩)]
  refine congrArg _ (funext fun a => Fin.ext ?_)
  match a with
  | ⟨0, _⟩ => show (y 0).val - 16 = l.val; omega

theorem reportVec_I (i : grid0.Coords) (y : S48.Idx) (h : (y 0).val = l.val) : reportVec (F := Ideal) i x y = rowI (F := Ideal) i x (ix1 l) := by
  have hl := l.isLt
  unfold reportVec
  rw [dif_neg (fun hh => by have := (hh 0).1; have : 32 ≤ (y 0).val := this; omega),
    dif_neg (fun hh => by have := (hh 0).1; have : 16 ≤ (y 0).val := this; omega), dif_pos (fun a => by
    match a with
    | ⟨0, _⟩ => exact ⟨show 0 ≤ (y 0).val by omega, show (y 0).val < 0 + 16 by omega⟩)]
  refine congrArg _ (funext fun a => Fin.ext ?_)
  match a with
  | ⟨0, _⟩ => show (y 0).val - 0 = l.val; omega

end Cert.ScKernelIdeal.Sc

end
-- ==== Proof.ScValue.lean ====
/- THE SPARSECORE CALL'S RESULT, at the extended reals: each core's four images' intersections over unions, zero in the lanes
   between. -/
module

public import proofs.«01_k».proof.Proof.ScRows

@[expose] public section

noncomputable section

namespace Cert.ScKernelIdeal.Sc

open Cert.ScKernelIdeal Cert.ScKernelIdeal.Gen Cert.Iou
open Idealize.ShloMosaic hiding ix1 ix2 ix3 ix4
open Idealize.ShloMosaic.ValueIdx
open Idealize.ShloMosaic.SparseCore (S V T)

/-! ## Running sums -/

section Pays

variable (v a b c e f g : Vec Ideal S16 .f32) (j : S16.Idx)

theorem pay108_apply : (k0_pay108 (F := Ideal) a b c e j : EReal) = (zeroW : EReal) + a j + b j + c j + e j := by
  unfold k0_pay108; simp only [shapeCast_self]; rfl
theorem pay109_apply : (k0_pay109 (F := Ideal) a b c e f j : EReal) = (zeroW : EReal) + a j + b j + c j + e j + f j := by
  unfold k0_pay109; simp only [shapeCast_self]; rfl
theorem pay110_apply : (k0_pay110 (F := Ideal) a b c e f j : EReal) = (zeroW : EReal) + a j + b j + c j + e j + f j := by
  unfold k0_pay110; simp only [shapeCast_self]; rfl
theorem pay111_apply : (k0_pay111 (F := Ideal) v a b c e f j : EReal) = (v j : EReal) + a j + b j + c j + e j + f j := by
  unfold k0_pay111; simp only [shapeCast_self]; rfl
theorem pay112_apply : (k0_pay112 (F := Ideal) v a b c e f j : EReal) = (v j : EReal) + a j + b j + c j + e j + f j := by
  unfold k0_pay112; simp only [shapeCast_self]; rfl
theorem pay113_apply : (k0_pay113 (F := Ideal) v a b c e f j : EReal) = (v j : EReal) + a j + b j + c j + e j + f j := by
  unfold k0_pay113; simp only [shapeCast_self]; rfl
theorem pay114_apply : (k0_pay114 (F := Ideal) v a b c e f j : EReal) = (v j : EReal) + a j + b j + c j + e j + f j := by
  unfold k0_pay114; simp only [shapeCast_self]; rfl
theorem pay115_apply : (k0_pay115 (F := Ideal) v a b c e f j : EReal) = (v j : EReal) + a j + b j + c j + e j + f j := by
  unfold k0_pay115; simp only [shapeCast_self]; rfl
theorem pay116_apply : (k0_pay116 (F := Ideal) v a b c e f j : EReal) = (v j : EReal) + a j + b j + c j + e j + f j := by
  unfold k0_pay116; simp only [shapeCast_self]; rfl

/-- The quotient off the running sums and the last rows. -/
theorem pay2_apply (sL sI sP : Vec Ideal S16 .f32) (l14 i15 p15 l15 : Vec Ideal S16 .f32) (i p l : ℕ)
    (hI : (sI j : EReal) + i15 j = nat i) (hP : (sP j : EReal) + p15 j = nat p) (hL : (sL j : EReal) + l14 j + l15 j = nat l) :
    k0_pay2 (F := Ideal) sL sI sP l14 i15 p15 l15 j = (iou i p l : Ideal .f32) := by
  refine Eq.trans ?_ (vec_quot i p l _ _ _ hI hP hL)
  unfold k0_pay2; simp only [shapeCast_self]; rfl

end Pays

/-- Sixteen naturals added up. -/
theorem sum16 (a : ℕ → ℕ) : ∑ s : Fin 16, a s.val = a 0 + a 1 + a 2 + a 3 + a 4 + a 5 + a 6 + a 7 + a 8 + a 9 + a 10 + a 11 + a 12 + a 13 + a 14 + a 15 := by
  rw [← Finset.sum_range a]
  simp only [Finset.sum_range_succ, Finset.sum_range_zero, zero_add]

/-- The ratios off lanes that hold naturals. -/
theorem ratiosOf_apply (ln : Lanes Ideal) (j : S16.Idx) (a p l : ℕ → ℕ)
    (hI : ∀ (s : Fin 16) (o : ℕ) (inb : ∀ a, (![o] : Fin 1 → ℕ) a + S16.size a ≤ S768.size a), o = 48 * s.val → ln o inb j = nat (a s.val))
    (hP : ∀ (s : Fin 16) (o : ℕ) (inb : ∀ a, (![o] : Fin 1 → ℕ) a + S16.size a ≤ S768.size a), o = 48 * s.val + 16 → ln o inb j = nat (p s.val))
    (hL : ∀ (s : Fin 16) (o : ℕ) (inb : ∀ a, (![o] : Fin 1 → ℕ) a + S16.size a ≤ S768.size a), o = 48 * s.val + 32 → ln o inb j = nat (l s.val)) :
    ratiosOf ln j = iou (∑ s : Fin 16, a s.val) (∑ s : Fin 16, p s.val) (∑ s : Fin 16, l s.val) := by
  unfold ratiosOf sumsC sumsB sumsA
  refine pay2_apply j _ _ _ _ _ _ _ _ _ _ ?_ ?_ ?_
  · dsimp only
    rw [pay115_apply, pay112_apply, pay109_apply, hI 0 0 _ rfl, hI 1 48 _ rfl, hI 2 96 _ rfl, hI 3 144 _ rfl, hI 4 192 _ rfl, hI 5 240 _ rfl, hI 6 288 _ rfl,
      hI 7 336 _ rfl, hI 8 384 _ rfl, hI 9 432 _ rfl, hI 10 480 _ rfl, hI 11 528 _ rfl, hI 12 576 _ rfl, hI 13 624 _ rfl, hI 14 672 _ rfl, hI 15 720 _ rfl,
      zeroW_eq, sum16, show (0 : EReal) + nat (a (0 : Fin 16).val) = nat (a 0) from zero_add _]
    simp only [nat_add]; rfl
  · dsimp only
    rw [pay116_apply, pay113_apply, pay110_apply, hP 0 16 _ rfl, hP 1 64 _ rfl, hP 2 112 _ rfl, hP 3 160 _ rfl, hP 4 208 _ rfl, hP 5 256 _ rfl, hP 6 304 _ rfl,
      hP 7 352 _ rfl, hP 8 400 _ rfl, hP 9 448 _ rfl, hP 10 496 _ rfl, hP 11 544 _ rfl, hP 12 592 _ rfl, hP 13 640 _ rfl, hP 14 688 _ rfl, hP 15 736 _ rfl,
      zeroW_eq, sum16, show (0 : EReal) + nat (p (0 : Fin 16).val) = nat (p 0) from zero_add _]
    simp only [nat_add]; rfl
  · dsimp only
    rw [pay114_apply, pay111_apply, pay108_apply, hL 0 32 _ rfl, hL 1 80 _ rfl, hL 2 128 _ rfl, hL 3 176 _ rfl, hL 4 224 _ rfl, hL 5 272 _ rfl, hL 6 320 _ rfl,
      hL 7 368 _ rfl, hL 8 416 _ rfl, hL 9 464 _ rfl, hL 10 512 _ rfl, hL 11 560 _ rfl, hL 12 608 _ rfl, hL 13 656 _ rfl, hL 14 704 _ rfl, hL 15 752 _ rfl,
      zeroW_eq, sum16, show (0 : EReal) + nat (l (0 : Fin 16).val) = nat (l 0) from zero_add _]
    simp only [nat_add]; rfl

/-! ## The result -/

section Result

variable (m : (ℓ : Loc nD τ sig) → Buf (Elt Ideal) ℓ) (d : Dev nD) (c : Fin 2)

abbrev scores : Scores.Idx → EReal := m (aLoc d)
abbrev labels : Iou.Labels.Idx → BitVec 32 := m (tLoc d)

variable (hT : Binary (labels m d)) (l : Fin 16)

theorem emb_tile (s : Fin 16) (o q : ℕ) (hq : q < 3) (inb : ∀ a, (![o] : Fin 1 → ℕ) a + S16.size a ≤ S768.size a) (h : o = 48 * s.val + 16 * q) :
    tileOf ((Rect.unit (s := S768) ![o] S16.size inb).emb (ix1 l)) = s := Fin.ext (by
  show (o + 1 * l.val) / 48 = s.val
  have := l.isLt
  omega)

theorem emb_place (s : Fin 16) (o q : ℕ) (hq : q < 3) (inb : ∀ a, (![o] : Fin 1 → ℕ) a + S16.size a ≤ S768.size a) (h : o = 48 * s.val + 16 * q) :
    (placeOf ((Rect.unit (s := S768) ![o] S16.size inb).emb (ix1 l)) 0).val = 16 * q + l.val := by
  show (o + 1 * l.val) % 48 = 16 * q + l.val
  have := l.isLt
  omega

theorem laneI (s : Fin 16) (o : ℕ) (inb : ∀ a, (![o] : Fin 1 → ℕ) a + S16.size a ≤ S768.size a) (h : o = 48 * s.val) :
    lane (shVec m d c) o inb (ix1 l) = nat (cell (fun k => wI (scores m d) (labels m d) (img c k)) s.val l.val) := by
  show rep m d (coordsV c (tileOf _)) (placeOf _) = _
  rw [emb_tile l s o 0 (by norm_num) inb (by omega)]
  unfold rep
  rw [reportVec_I _ l _ _ ((emb_place l s o 0 (by norm_num) inb (by omega)).trans (by omega))]
  refine rowI_apply c s _ l _ ?_
  rw [tallyI]
  refine bandW_toInt _ (fun r k => ?_) _
  unfold wI
  rw [BitVec.toNat_and]
  exact Nat.and_le_left.trans (posW_le _ _)

theorem laneP (s : Fin 16) (o : ℕ) (inb : ∀ a, (![o] : Fin 1 → ℕ) a + S16.size a ≤ S768.size a) (h : o = 48 * s.val + 16) :
    lane (shVec m d c) o inb (ix1 l) = nat (cell (fun k => wP (scores m d) (img c k)) s.val l.val) := by
  show rep m d (coordsV c (tileOf _)) (placeOf _) = _
  rw [emb_tile l s o 1 (by norm_num) inb (by omega)]
  unfold rep
  rw [reportVec_P _ l _ _ ((emb_place l s o 1 (by norm_num) inb (by omega)).trans (by omega))]
  refine rowP_apply c s _ l _ ?_
  rw [tallyP]
  exact bandW_toInt _ (fun r k => posW_le _ _) _

include hT in
theorem laneL (s : Fin 16) (o : ℕ) (inb : ∀ a, (![o] : Fin 1 → ℕ) a + S16.size a ≤ S768.size a) (h : o = 48 * s.val + 32) :
    lane (shVec m d c) o inb (ix1 l) = nat (cell (fun k => wL (labels m d) (img c k)) s.val l.val) := by
  show rep m d (coordsV c (tileOf _)) (placeOf _) = _
  rw [emb_tile l s o 2 (by norm_num) inb (by omega)]
  unfold rep
  rw [reportVec_L _ l _ _ ((emb_place l s o 2 (by norm_num) inb (by omega)).trans (by omega))]
  refine rowL_apply c s _ l _ ?_
  rw [tallyL]
  exact bandW_toInt _ (fun r k => hT _) _

include hT in
/-- A core's ratios. -/
theorem ratios_value : ratios (shVec m d c) (ix1 l) = if l.val < 4
    then iou (nI (scores m d) (labels m d) (img c l.val)) (nP (scores m d) (img c l.val)) (nL (labels m d) (img c l.val)) else 0 := by
  unfold ratios
  rw [ratiosOf_apply _ _ (fun s => cell (fun k => wI (scores m d) (labels m d) (img c k)) s l.val) (fun s => cell (fun k => wP (scores m d) (img c k)) s l.val)
    (fun s => cell (fun k => wL (labels m d) (img c k)) s l.val) (laneI m d c l) (laneP m d c l) (laneL m d c hT l), cells_count, cells_count, cells_count]
  by_cases h : l.val < 4
  · rw [if_pos h, if_pos h, if_pos h, if_pos h]; rfl
  · rw [if_neg h, if_neg h, if_neg h, if_neg h]; exact iou_zero

include hT in
/-- The result. -/
theorem outVec_value (k : Fin 16) : outVec m d (ix1 k) = padded (scores m d) (labels m d) k.val := by
  have e : laneOf (ix1 k) = ix1 (⟨k.val % 8, by omega⟩ : Fin 16) := by
    funext a
    match a with
    | ⟨0, _⟩ => rfl
  unfold outVec
  rw [e]
  exact ratios_value m d (halfOf (ix1 k)) hT _

end Result

end Cert.ScKernelIdeal.Sc

end
-- ==== Proof.ScReferenceValue.lean ====
/- THE PLAIN PROGRAM beside the SparseCore call: the quotients of its eight images, four at a time, with four zeros after each
   four. -/
module

public import proofs.«01_k».proof.Proof.Pixel
public import proofs.«01_k».proof.Proof.Words
public import Idealize.ShloMosaic.Lib.Pipeline.Value
public import proofs.«01_k».proof.Proof.Gen.ScReferenceIdeal.Read

@[expose] public section

noncomputable section

namespace Cert.ScReferenceIdeal.Val

open Idealize.ShloMosaic hiding ix1 ix2 ix3 ix4
open Idealize.ShloMosaic.ValueIdx Cert.ScReferenceIdeal Cert.ScReferenceIdeal.Read Cert.Iou

variable (P : FVec Ideal Scores .f32) (T : IVec Labels 32)

/-- The score of channel one at a pixel. -/
theorem score1 (b : Fin 16) (r c : Fin 512) : val_main_v1 (F := Ideal) P (ix3 b r c) = P (ix4 b 1 r c) := by
  rw [val_main_v1_apply, val_main_v0_apply]
  refine congrArg P (funext fun a => Fin.ext ?_)
  have hb := b.isLt; have hr := r.isLt; have hc := c.isLt
  match a with
  | ⟨0, _⟩ => show ((b.val * 512 + r.val) * 512 + c.val) / 262144 = b.val; omega
  | ⟨1, _⟩ => rfl
  | ⟨2, _⟩ => show ((b.val * 512 + r.val) * 512 + c.val) / 512 % 512 = r.val; omega
  | ⟨3, _⟩ => show ((b.val * 512 + r.val) * 512 + c.val) % 512 = c.val; omega

/-- The score of channel zero at a pixel. -/
theorem score0 (b : Fin 16) (r c : Fin 512) : val_main_v3 (F := Ideal) P (ix3 b r c) = P (ix4 b 0 r c) := by
  rw [val_main_v3_apply, val_main_v2_apply]
  refine congrArg P (funext fun a => Fin.ext ?_)
  have hb := b.isLt; have hr := r.isLt; have hc := c.isLt
  match a with
  | ⟨0, _⟩ => show ((b.val * 512 + r.val) * 512 + c.val) / 262144 = b.val; omega
  | ⟨1, _⟩ => rfl
  | ⟨2, _⟩ => show ((b.val * 512 + r.val) * 512 + c.val) / 512 % 512 = r.val; omega
  | ⟨3, _⟩ => show ((b.val * 512 + r.val) * 512 + c.val) % 512 = c.val; omega

variable (hT : Binary T)
include hT

/-- The indicator of "predicted and labelled". -/
theorem v21_eq (b : Fin 16) (r c : Fin 512) :
    val_main_v21 (F := Ideal) P T (ix3 b r c) = nat (posW (P (ix4 b 0 r c)) (P (ix4 b 1 r c)) &&& T (ix3 b r c)).toNat := by
  rw [val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_call0_v0_apply, val_main_call0_v1_apply, val_main_call1_v0_apply, val_main_call1_v1_apply, score0, score1]
  refine Eq.trans ?_ (indI _ _ _ (hT _))
  rw [← predicted (P (ix4 b 0 r c)) (P (ix4 b 1 r c)), ← labelled (T (ix3 b r c)) (hT _)]
  rfl

/-- The indicator of "predicted". -/
theorem v30_eq (b : Fin 16) (r c : Fin 512) :
    val_main_v30 (F := Ideal) P T (ix3 b r c) = nat (posW (P (ix4 b 0 r c)) (P (ix4 b 1 r c))).toNat := by
  rw [val_main_v30_apply, val_main_v29_apply, val_main_v28_apply, val_main_v27_apply, val_main_v26_apply, val_main_v25_apply,
    val_main_v24_apply, val_main_v23_apply,
    val_main_v9_apply, val_main_v8_apply, val_main_v7_apply, val_main_v6_apply, val_main_v5_apply, val_main_v4_apply,
    val_main_call0_v0_apply, val_main_call0_v1_apply, val_main_call2_v0_apply, val_main_call2_v1_apply, score0, score1]
  refine Eq.trans ?_ (indP _ _ _ (hT (ix3 b r c)))
  rw [← predicted (P (ix4 b 0 r c)) (P (ix4 b 1 r c))]
  rfl

/-- The indicator of "labelled". -/
theorem v36_eq (b : Fin 16) (r c : Fin 512) : val_main_v36 (F := Ideal) T (ix3 b r c) = nat (T (ix3 b r c)).toNat := by
  rw [val_main_v36_apply, val_main_v35_apply, val_main_v34_apply, val_main_v33_apply, val_main_v32_apply, val_main_v10_apply,
    val_main_v9_apply, val_main_v8_apply, val_main_call3_v0_apply, val_main_call3_v1_apply]
  refine Eq.trans ?_ (indL _ (hT _))
  rw [← labelled (T (ix3 b r c)) (hT _)]
  rfl

/-- The three counts of an image. -/
theorem v22_eq (j : Images.Idx) : val_main_v22 (F := Ideal) P T j = nat (nI P T (j 0)) :=
  hostSum _ _ (fun _ => rfl) _ _ (fun b r c => (posW (P (ix4 b 0 r c)) (P (ix4 b 1 r c)) &&& T (ix3 b r c)).toNat) (v21_eq P T hT) j
theorem v31_eq (j : Images.Idx) : val_main_v31 (F := Ideal) P T j = nat (nP P (j 0)) :=
  hostSum _ _ (fun _ => rfl) _ _ (fun b r c => (posW (P (ix4 b 0 r c)) (P (ix4 b 1 r c))).toNat) (v30_eq P T hT) j
theorem v37_eq (j : Images.Idx) : val_main_v37 (F := Ideal) T j = nat (nL T (j 0)) :=
  hostSum _ _ (fun _ => rfl) _ _ (fun b r c => (T (ix3 b r c)).toNat) (v36_eq T hT) j

/-- The result. -/
theorem value (j : Images.Idx) : val_main_v43 (F := Ideal) P T j = iou (nI P T (j 0)) (nP P (j 0)) (nL T (j 0)) := by
  rw [val_main_v43_apply, val_main_v42_apply, val_main_v41_apply, val_main_v40_apply, val_main_v39_apply, val_main_v38_apply,
    val_main_call4_v1_apply, val_main_call4_v0_apply, v22_eq P T hT, v31_eq P T hT, v37_eq T hT]
  exact total_eq (nI_le_nP P T _)

omit hT in
theorem v44_eq (j : S4.Idx) : val_main_v44 (F := Ideal) j = (0 : EReal) := by
  rw [val_main_v44_apply]; exact zeroW_eq

/-- A quotient read at an index by its number. -/
theorem value_at (j : S16.Idx) (n : ℕ) (hj : (j 0).val = n) :
    val_main_v43 (F := Ideal) P T j = iou (nI P T (Fin.ofNat 16 n)) (nP P (Fin.ofNat 16 n)) (nL T (Fin.ofNat 16 n)) := by
  have e : Fin.ofNat 16 n = j 0 := Fin.ext (by
    have : (j 0).val < 16 := (j 0).isLt
    show n % 16 = (j 0).val
    omega)
  rw [value P T hT, e]

/-- The four quotients of a half, each half followed by zeros. -/
theorem padded_value (k : Fin 16) : val_main_v47 (F := Ideal) P T (ix1 k) = padded P T k.val := by
  have hk := k.isLt
  unfold val_main_v47 padded
  rcases (by omega : k.val < 4 ∨ (4 ≤ k.val ∧ k.val < 8) ∨ (8 ≤ k.val ∧ k.val < 12) ∨ 12 ≤ k.val) with h | h | h | h
  · rw [if_pos (by omega), concatenate_apply_piece 0 _ _ (ix1 k) 0 (by show 0 < 4; norm_num) S4 (val_main_v45 (F := Ideal) P T) rfl rfl 0 rfl
      (ix1 (⟨k.val, by omega⟩ : Fin 4)) (fun b hb => absurd (Fin.eq_zero _) hb) (show 0 + k.val = k.val by omega), val_main_v45_apply]
    exact value_at P T hT _ _ (by show _ = _; simp; omega)
  · rw [if_neg (by omega), concatenate_apply_piece 0 _ _ (ix1 k) 1 (by show 1 < 4; norm_num) S4 (val_main_v44 (F := Ideal)) rfl rfl 4 rfl
      (ix1 (⟨k.val - 4, by omega⟩ : Fin 4)) (fun b hb => absurd (Fin.eq_zero _) hb) (show 4 + (k.val - 4) = k.val by omega)]
    exact v44_eq _
  · rw [if_pos (by omega), concatenate_apply_piece 0 _ _ (ix1 k) 2 (by show 2 < 4; norm_num) S4 (val_main_v46 (F := Ideal) P T) rfl rfl 8 rfl
      (ix1 (⟨k.val - 8, by omega⟩ : Fin 4)) (fun b hb => absurd (Fin.eq_zero _) hb) (show 8 + (k.val - 8) = k.val by omega), val_main_v46_apply]
    exact value_at P T hT _ _ (by show _ = _; simp; omega)
  · rw [if_neg (by omega), concatenate_apply_piece 0 _ _ (ix1 k) 3 (by show 3 < 4; norm_num) S4 (val_main_v44 (F := Ideal)) rfl rfl 12 rfl
      (ix1 (⟨k.val - 12, by omega⟩ : Fin 4)) (fun b hb => absurd (Fin.eq_zero _) hb) (show 12 + (k.val - 12) = k.val by omega)]
    exact v44_eq _

end Cert.ScReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.TotalIdeal
public import proofs.«01_k».proof.Proof.Gen.ScKernel
public import proofs.«01_k».proof.Proof.Gen.ScKernel.Skeleton
public import proofs.«01_k».proof.Proof.Gen.ScKernelIdeal
public import proofs.«01_k».proof.Proof.Gen.ScKernelIdeal.Skeleton
public import proofs.«01_k».proof.Proof.Gen.ScReferenceIdeal
public import proofs.«01_k».proof.Proof.Gen.ScReferenceIdeal.Read
public import proofs.«01_k».proof.Proof.Gen.Pre_targets_binary
public import proofs.«01_k».proof.Proof.Gen.On_union_nonempty
public import proofs.«01_k».proof.Proof.Gen.ReferenceIdeal.Read
public import proofs.«01_k».proof.Proof.Gen.TotalIdeal.Read
public import proofs.«01_k».proof.Proof.Array
public import proofs.«01_k».proof.Proof.TotalValue
public import proofs.«01_k».proof.Proof.ReferenceValue
public import proofs.«01_k».proof.Proof.BitsLaunch
public import proofs.«01_k».proof.Proof.ScLaunch
public import proofs.«01_k».proof.Proof.ScValue
public import proofs.«01_k».proof.Proof.ScReferenceValue
public import Idealize.ShloMosaic.Lib.Claim
public import Idealize.ShloMosaic.Adequacy
public import Idealize.ShloMosaic.Init

@[expose] public section

noncomputable section

namespace Cert.Proof

open Idealize.ShloMosaic Idealize.SL.Sem

/-- The kernel's value claim at the reference that is zero where the union is empty: the shared value is the quotient of
    counts (`Val.result`). -/
theorem total : Cert.algebraic_KernelIdeal_TotalIdeal_pre_targets_binary := by
  intro m g m' g' hpre hagree
  have hT : ∀ c, Iou.Binary (KernelIdeal.Val.argT m c) := fun c => Iou.binary_of_pre _ _ (hpre c)
  refine ⟨KernelIdeal.Val.result m, KernelIdeal.Val.run m g hT, ?_⟩
  refine (θ_run TotalIdeal.defs _ _).mono (fun r h c => ⟨(h c).1.trans ?_, (h c).2⟩) (TotalIdeal.Value.run m' g')
  rw [TotalIdeal.Read.val_main_v43_eq, (hagree c).1, (hagree c).2]
  exact funext fun j => TotalIdeal.Val.value _ _ (hT c) j

/-- The kernel's value claim at the reference as given, at the images whose union is not empty. -/
theorem given : Cert.algebraic_KernelIdeal_ReferenceIdeal_on_union_nonempty_pre_targets_binary := by
  intro m g m' g' hpre hagree
  have hT : ∀ c, Iou.Binary (KernelIdeal.Val.argT m c) := fun c => Iou.binary_of_pre _ _ (hpre c)
  refine ⟨KernelIdeal.Val.result m, ?_, ?_⟩
  · exact (θ_run KernelIdeal.defs _ _).mono (fun r h c => ⟨fun i _ => congrFun (h c).1 i, (h c).2⟩) (KernelIdeal.Val.run m g hT)
  · refine (θ_run ReferenceIdeal.defs _ _).mono (fun r h c => ⟨fun j hj => (congrFun (h c).1 j).trans ?_, (h c).2⟩) (ReferenceIdeal.Value.run m' g')
    rw [ReferenceIdeal.Read.val_main_v41_eq, (hagree c).1, (hagree c).2]
    exact ReferenceIdeal.Val.value _ _ (hT c) j (Iou.union_of_on _ _ j hj)

/-- A plain program's frame: its run read at its arguments; it declares no semaphore. -/
theorem frame_reference : Cert.quiescent_ReferenceIdeal := fun m ρ _ =>
  (θ_run ReferenceIdeal.defs _ _).mono (fun r h => ⟨fun c => (h c).2, sem_eq_zero_of_no_sems (by decide) r.2⟩) (ReferenceIdeal.Value.run m ρ)
theorem frame_total : Cert.quiescent_TotalIdeal := fun m ρ _ =>
  (θ_run TotalIdeal.defs _ _).mono (fun r h => ⟨fun c => (h c).2, sem_eq_zero_of_no_sems (by decide) r.2⟩) (TotalIdeal.Value.run m ρ)

theorem frame_scReference : Cert.quiescent_ScReferenceIdeal := fun m ρ _ =>
  (θ_run ScReferenceIdeal.defs _ _).mono (fun r h => ⟨fun c => (h c).2, sem_eq_zero_of_no_sems (by decide) r.2⟩) (ScReferenceIdeal.Value.run m ρ)

/-- The SparseCore call's frames: its run, the result dropped. -/
theorem frame_sc : Cert.quiescent_ScKernel := fun m ρ _ =>
  (θ_run ScKernel.defs _ _).mono (fun r h => ⟨fun c => ⟨(h.1 c).1, (h.1 c).2.1⟩, h.2⟩) (ScKernel.Sc.run_main m ρ)
theorem frame_scIdeal : Cert.quiescent_ScKernelIdeal := fun m ρ _ =>
  (θ_run ScKernelIdeal.defs _ _).mono (fun r h => ⟨fun c => ⟨(h.1 c).1, (h.1 c).2.1⟩, h.2⟩) (ScKernelIdeal.Sc.run_main m ρ)

/-- The SparseCore call's value claim: the shared value is what its tasks compute, which is the two halves' quotients, each
    half followed by zeros. -/
theorem sparse : Cert.algebraic_ScKernelIdeal_ScReferenceIdeal_pre_targets_binary := by
  intro m g m' g' hpre hagree
  have hT : ∀ c, Iou.Binary (ScKernelIdeal.Sc.labels m c) := fun c => Iou.binary_of_pre _ _ (hpre c)
  refine ⟨fun c => ScKernelIdeal.Sc.outVec m c, ?_, ?_⟩
  · exact (θ_run ScKernelIdeal.defs _ _).mono (fun r h c => ⟨(h.1 c).2.2, (h.1 c).1, (h.1 c).2.1⟩) (ScKernelIdeal.Sc.run_main m g)
  · refine (θ_run ScReferenceIdeal.defs _ _).mono (fun r h c => ⟨(h c).1.trans ?_, (h c).2⟩) (ScReferenceIdeal.Value.run m' g')
    rw [ScReferenceIdeal.Read.val_main_v47_eq, (hagree c).1, (hagree c).2]
    refine funext fun j => ?_
    rw [ValueIdx.eq_ix1 j]
    exact (ScReferenceIdeal.Val.padded_value _ _ (hT c) (j 0)).trans (ScKernelIdeal.Sc.outVec_value m c (hT c) (j 0)).symm

theorem claim : Cert.Claim := ⟨Cert.Kernel.Gen.facts, Cert.KernelIdeal.Gen.facts, Cert.ReferenceIdeal.Gen.facts, Cert.TotalIdeal.Gen.facts,
    Cert.ScKernel.Gen.facts, Cert.ScKernelIdeal.Gen.facts, Cert.ScReferenceIdeal.Gen.facts,
    Cert.Pre_targets_binary.Gen.facts, Cert.On_union_nonempty.Gen.facts, by
  refine ⟨?_, ?_, ?_, ?_, ?_, ?_, ?_, frame_sc, frame_scIdeal, ?_, frame_scReference, ?_, ?_, total, given, ?_, sparse⟩
  · intro m ρ _; exact Cert.Kernel.Gen.frame m ρ
  · intro m ρ _; exact Cert.KernelIdeal.Gen.frame m ρ
  · intro m ρ _; exact Cert.KernelIdeal.Gen.frame m ρ
  · exact frame_reference
  · intro m ρ _; exact frame_reference m ρ trivial
  · exact frame_total
  · intro m ρ _; exact frame_total m ρ trivial
  · intro m ρ _; exact frame_scIdeal m ρ trivial
  · intro m ρ _; exact frame_scReference m ρ trivial
  · trivial
  · trivial⟩

end Cert.Proof

end
